-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S2x256x1024 : Shape := ⟨3, ![2, 256, 1024]⟩
abbrev S2x128x1024 : Shape := ⟨3, ![2, 128, 1024]⟩
abbrev S24 : Shape := ⟨1, ![24]⟩
abbrev S_ : Shape := ⟨0, ![]⟩
abbrev S1x64x1024 : Shape := ⟨3, ![1, 64, 1024]⟩
abbrev S64x1024 : Shape := ⟨2, ![64, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S2x256x1024, .bf16⟩
  | .local _ .vmem, ⟨3, _⟩ => ⟨S2x128x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_20 : BitVec 32 := 1#32
  let v32 : BitVec 32 := Scalar.muli v6 c1_i32_20
  let v33 : BitVec 32 := Scalar.addi c0_i32 v32
  v33.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_22 : BitVec 32 := 1#32
  let v34 : BitVec 32 := Scalar.muli v8 c1_i32_22
  let v35 : BitVec 32 := Scalar.addi c0_i32_23 v34
  v35.toNat
def k0_off1 (d0 : Dev nD) : Fin 3 → Nat :=
  let c0 : Index := 0#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c1_i32_16 : BitVec 32 := 1#32
  let v28 : BitVec 32 := Scalar.subi c1_i32_16 v4
  let c128_i32_17 : BitVec 32 := 128#32
  let v29 : BitVec 32 := Scalar.muli v28 c128_i32_17
  let v44 : BitVec 32 := Scalar.addi v17 v29
  let v45 : Index := Scalar.indexCast v44
  let c0_31 : Index := 0#32
  ![0, v45.toNat, 0]
def k0_off2 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c1_i32_16 : BitVec 32 := 1#32
  let v28 : BitVec 32 := Scalar.subi c1_i32_16 v4
  let c128_i32_17 : BitVec 32 := 128#32
  let v29 : BitVec 32 := Scalar.muli v28 c128_i32_17
  let v44 : BitVec 32 := Scalar.addi v17 v29
  let v48 : Index := Scalar.indexCast v44
  let c0_32 : Index := 0#32
  ![v48.toNat, 0]
def k0_off3 (d0 : Dev nD) : Fin 3 → Nat :=
  let c0_i32_33 : BitVec 32 := 0#32
  let c1_i32_16 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v28 : BitVec 32 := Scalar.subi c1_i32_16 v4
  let c128_i32_17 : BitVec 32 := 128#32
  let v29 : BitVec 32 := Scalar.muli v28 c128_i32_17
  let c0_i32_38 : BitVec 32 := 0#32
  ![0, v29.toNat, 0]
def k0_off4 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c1_i32_16 : BitVec 32 := 1#32
  let v28 : BitVec 32 := Scalar.subi c1_i32_16 v4
  let c128_i32_17 : BitVec 32 := 128#32
  let v29 : BitVec 32 := Scalar.muli v28 c128_i32_17
  let v50 : BitVec 32 := Scalar.addi v17 v29
  let c0_i32_39 : BitVec 32 := 0#32
  ![v50.toNat, 0]
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_36 : BitVec 32 := 1#32
  let v51 : BitVec 32 := Scalar.muli v6 c1_i32_36
  let v52 : BitVec 32 := Scalar.addi c0_i32_37 v51
  v52.toNat
def k0_off5 (d0 : Dev nD) : Fin 3 → Nat :=
  let c0_40 : Index := 0#32
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c1_i32_0 : BitVec 32 := 1#32
  let v3 : BitVec 32 := Scalar.andi v2 c1_i32_0
  let c128_i32_18 : BitVec 32 := 128#32
  let v30 : BitVec 32 := Scalar.muli v3 c128_i32_18
  let v60 : BitVec 32 := Scalar.addi v27 v30
  let v61 : Index := Scalar.indexCast v60
  let c0_41 : Index := 0#32
  ![0, v61.toNat, 0]
def k0_off6 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c1_i32_0 : BitVec 32 := 1#32
  let v3 : BitVec 32 := Scalar.andi v2 c1_i32_0
  let c128_i32_18 : BitVec 32 := 128#32
  let v30 : BitVec 32 := Scalar.muli v3 c128_i32_18
  let v60 : BitVec 32 := Scalar.addi v27 v30
  let v64 : Index := Scalar.indexCast v60
  let c0_42 : Index := 0#32
  ![v64.toNat, 0]
def k0_off7 (d0 : Dev nD) : Fin 3 → Nat :=
  let c1_i32_43 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c128_i32_18 : BitVec 32 := 128#32
  let v30 : BitVec 32 := Scalar.muli v3 c128_i32_18
  let c0_i32_48 : BitVec 32 := 0#32
  ![1, v30.toNat, 0]
def k0_off8 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c1_i32_0 : BitVec 32 := 1#32
  let v3 : BitVec 32 := Scalar.andi v2 c1_i32_0
  let c128_i32_18 : BitVec 32 := 128#32
  let v30 : BitVec 32 := Scalar.muli v3 c128_i32_18
  let v66 : BitVec 32 := Scalar.addi v27 v30
  let c0_i32_49 : BitVec 32 := 0#32
  ![v66.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_46 : BitVec 32 := 1#32
  let v67 : BitVec 32 := Scalar.muli v8 c1_i32_46
  let v68 : BitVec 32 := Scalar.addi c0_i32_47 v67
  v68.toNat
def k0_off9 (d0 : Dev nD) : Fin 3 → Nat :=
  let c0_50 : Index := 0#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c1_i32_16 : BitVec 32 := 1#32
  let v28 : BitVec 32 := Scalar.subi c1_i32_16 v4
  let c128_i32_17 : BitVec 32 := 128#32
  let v29 : BitVec 32 := Scalar.muli v28 c128_i32_17
  let c64_i32 : BitVec 32 := 64#32
  let v36 : BitVec 32 := Scalar.addi v29 c64_i32
  let v76 : BitVec 32 := Scalar.addi v17 v36
  let v77 : Index := Scalar.indexCast v76
  let c0_51 : Index := 0#32
  ![0, v77.toNat, 0]
def k0_off10 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c1_i32_16 : BitVec 32 := 1#32
  let v28 : BitVec 32 := Scalar.subi c1_i32_16 v4
  let c128_i32_17 : BitVec 32 := 128#32
  let v29 : BitVec 32 := Scalar.muli v28 c128_i32_17
  let c64_i32 : BitVec 32 := 64#32
  let v36 : BitVec 32 := Scalar.addi v29 c64_i32
  let v76 : BitVec 32 := Scalar.addi v17 v36
  let v80 : Index := Scalar.indexCast v76
  let c0_52 : Index := 0#32
  ![v80.toNat, 0]
def k0_off11 (d0 : Dev nD) : Fin 3 → Nat :=
  let c0_i32_53 : BitVec 32 := 0#32
  let c1_i32_16 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v28 : BitVec 32 := Scalar.subi c1_i32_16 v4
  let c128_i32_17 : BitVec 32 := 128#32
  let v29 : BitVec 32 := Scalar.muli v28 c128_i32_17
  let c64_i32 : BitVec 32 := 64#32
  let v36 : BitVec 32 := Scalar.addi v29 c64_i32
  let c0_i32_58 : BitVec 32 := 0#32
  ![0, v36.toNat, 0]
def k0_off12 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c1_i32_16 : BitVec 32 := 1#32
  let v28 : BitVec 32 := Scalar.subi c1_i32_16 v4
  let c128_i32_17 : BitVec 32 := 128#32
  let v29 : BitVec 32 := Scalar.muli v28 c128_i32_17
  let c64_i32 : BitVec 32 := 64#32
  let v36 : BitVec 32 := Scalar.addi v29 c64_i32
  let v82 : BitVec 32 := Scalar.addi v17 v36
  let c0_i32_59 : BitVec 32 := 0#32
  ![v82.toNat, 0]
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_56 : BitVec 32 := 1#32
  let v83 : BitVec 32 := Scalar.muli v6 c1_i32_56
  let v84 : BitVec 32 := Scalar.addi c0_i32_57 v83
  v84.toNat
def k0_off13 (d0 : Dev nD) : Fin 3 → Nat :=
  let c0_60 : Index := 0#32
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c1_i32_0 : BitVec 32 := 1#32
  let v3 : BitVec 32 := Scalar.andi v2 c1_i32_0
  let c128_i32_18 : BitVec 32 := 128#32
  let v30 : BitVec 32 := Scalar.muli v3 c128_i32_18
  let c64_i32_27 : BitVec 32 := 64#32
  let v40 : BitVec 32 := Scalar.addi v30 c64_i32_27
  let v92 : BitVec 32 := Scalar.addi v27 v40
  let v93 : Index := Scalar.indexCast v92
  let c0_61 : Index := 0#32
  ![0, v93.toNat, 0]
def k0_off14 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c1_i32_0 : BitVec 32 := 1#32
  let v3 : BitVec 32 := Scalar.andi v2 c1_i32_0
  let c128_i32_18 : BitVec 32 := 128#32
  let v30 : BitVec 32 := Scalar.muli v3 c128_i32_18
  let c64_i32_27 : BitVec 32 := 64#32
  let v40 : BitVec 32 := Scalar.addi v30 c64_i32_27
  let v92 : BitVec 32 := Scalar.addi v27 v40
  let v96 : Index := Scalar.indexCast v92
  let c0_62 : Index := 0#32
  ![v96.toNat, 0]
def k0_off15 (d0 : Dev nD) : Fin 3 → Nat :=
  let c1_i32_63 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c128_i32_18 : BitVec 32 := 128#32
  let v30 : BitVec 32 := Scalar.muli v3 c128_i32_18
  let c64_i32_27 : BitVec 32 := 64#32
  let v40 : BitVec 32 := Scalar.addi v30 c64_i32_27
  let c0_i32_67 : BitVec 32 := 0#32
  ![1, v40.toNat, 0]
def k0_off16 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c1_i32_0 : BitVec 32 := 1#32
  let v3 : BitVec 32 := Scalar.andi v2 c1_i32_0
  let c128_i32_18 : BitVec 32 := 128#32
  let v30 : BitVec 32 := Scalar.muli v3 c128_i32_18
  let c64_i32_27 : BitVec 32 := 64#32
  let v40 : BitVec 32 := Scalar.addi v30 c64_i32_27
  let v98 : BitVec 32 := Scalar.addi v27 v40
  let c0_i32_68 : BitVec 32 := 0#32
  ![v98.toNat, 0]
def k0_dev6 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_65 : BitVec 32 := 1#32
  let v99 : BitVec 32 := Scalar.muli v8 c1_i32_65
  let v100 : BitVec 32 := Scalar.addi c0_i32_66 v99
  v100.toNat
def k0_off17 (d0 : Dev nD) : Fin 3 → Nat :=
  let c0_69 : Index := 0#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c128_i32_24 : BitVec 32 := 128#32
  let c1_i32_16 : BitVec 32 := 1#32
  let v28 : BitVec 32 := Scalar.subi c1_i32_16 v4
  let c128_i32_17 : BitVec 32 := 128#32
  let v29 : BitVec 32 := Scalar.muli v28 c128_i32_17
  let v37 : BitVec 32 := Scalar.subi c128_i32_24 v29
  let v108 : BitVec 32 := Scalar.addi v17 v37
  let v109 : Index := Scalar.indexCast v108
  let c0_70 : Index := 0#32
  ![0, v109.toNat, 0]
def k0_off18 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c128_i32_24 : BitVec 32 := 128#32
  let c1_i32_16 : BitVec 32 := 1#32
  let v28 : BitVec 32 := Scalar.subi c1_i32_16 v4
  let c128_i32_17 : BitVec 32 := 128#32
  let v29 : BitVec 32 := Scalar.muli v28 c128_i32_17
  let v37 : BitVec 32 := Scalar.subi c128_i32_24 v29
  let v108 : BitVec 32 := Scalar.addi v17 v37
  let v112 : Index := Scalar.indexCast v108
  let c0_71 : Index := 0#32
  ![v112.toNat, 0]
def k0_off19 (d0 : Dev nD) : Fin 3 → Nat :=
  let c0_i32_72 : BitVec 32 := 0#32
  let c128_i32_24 : BitVec 32 := 128#32
  let c1_i32_16 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v28 : BitVec 32 := Scalar.subi c1_i32_16 v4
  let c128_i32_17 : BitVec 32 := 128#32
  let v29 : BitVec 32 := Scalar.muli v28 c128_i32_17
  let v37 : BitVec 32 := Scalar.subi c128_i32_24 v29
  let c0_i32_77 : BitVec 32 := 0#32
  ![0, v37.toNat, 0]
def k0_off20 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c128_i32_24 : BitVec 32 := 128#32
  let c1_i32_16 : BitVec 32 := 1#32
  let v28 : BitVec 32 := Scalar.subi c1_i32_16 v4
  let c128_i32_17 : BitVec 32 := 128#32
  let v29 : BitVec 32 := Scalar.muli v28 c128_i32_17
  let v37 : BitVec 32 := Scalar.subi c128_i32_24 v29
  let v114 : BitVec 32 := Scalar.addi v17 v37
  let c0_i32_78 : BitVec 32 := 0#32
  ![v114.toNat, 0]
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_75 : BitVec 32 := 1#32
  let v115 : BitVec 32 := Scalar.muli v6 c1_i32_75
  let v116 : BitVec 32 := Scalar.addi c0_i32_76 v115
  v116.toNat
def k0_off21 (d0 : Dev nD) : Fin 3 → Nat :=
  let c0_79 : Index := 0#32
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c128_i32_28 : BitVec 32 := 128#32
  let c1_i32_0 : BitVec 32 := 1#32
  let v3 : BitVec 32 := Scalar.andi v2 c1_i32_0
  let c128_i32_18 : BitVec 32 := 128#32
  let v30 : BitVec 32 := Scalar.muli v3 c128_i32_18
  let v41 : BitVec 32 := Scalar.subi c128_i32_28 v30
  let v124 : BitVec 32 := Scalar.addi v27 v41
  let v125 : Index := Scalar.indexCast v124
  let c0_80 : Index := 0#32
  ![0, v125.toNat, 0]
def k0_off22 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c128_i32_28 : BitVec 32 := 128#32
  let c1_i32_0 : BitVec 32 := 1#32
  let v3 : BitVec 32 := Scalar.andi v2 c1_i32_0
  let c128_i32_18 : BitVec 32 := 128#32
  let v30 : BitVec 32 := Scalar.muli v3 c128_i32_18
  let v41 : BitVec 32 := Scalar.subi c128_i32_28 v30
  let v124 : BitVec 32 := Scalar.addi v27 v41
  let v128 : Index := Scalar.indexCast v124
  let c0_81 : Index := 0#32
  ![v128.toNat, 0]
def k0_off23 (d0 : Dev nD) : Fin 3 → Nat :=
  let c1_i32_82 : BitVec 32 := 1#32
  let c128_i32_28 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c128_i32_18 : BitVec 32 := 128#32
  let v30 : BitVec 32 := Scalar.muli v3 c128_i32_18
  let v41 : BitVec 32 := Scalar.subi c128_i32_28 v30
  let c0_i32_86 : BitVec 32 := 0#32
  ![1, v41.toNat, 0]
def k0_off24 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c128_i32_28 : BitVec 32 := 128#32
  let c1_i32_0 : BitVec 32 := 1#32
  let v3 : BitVec 32 := Scalar.andi v2 c1_i32_0
  let c128_i32_18 : BitVec 32 := 128#32
  let v30 : BitVec 32 := Scalar.muli v3 c128_i32_18
  let v41 : BitVec 32 := Scalar.subi c128_i32_28 v30
  let v130 : BitVec 32 := Scalar.addi v27 v41
  let c0_i32_87 : BitVec 32 := 0#32
  ![v130.toNat, 0]
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_84 : BitVec 32 := 1#32
  let v131 : BitVec 32 := Scalar.muli v8 c1_i32_84
  let v132 : BitVec 32 := Scalar.addi c0_i32_85 v131
  v132.toNat
def k0_off25 (d0 : Dev nD) : Fin 3 → Nat :=
  let c0_88 : Index := 0#32
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c128_i32_25 : BitVec 32 := 128#32
  let c1_i32_16 : BitVec 32 := 1#32
  let v28 : BitVec 32 := Scalar.subi c1_i32_16 v4
  let c128_i32_17 : BitVec 32 := 128#32
  let v29 : BitVec 32 := Scalar.muli v28 c128_i32_17
  let v38 : BitVec 32 := Scalar.subi c128_i32_25 v29
  let c64_i32_26 : BitVec 32 := 64#32
  let v39 : BitVec 32 := Scalar.addi v38 c64_i32_26
  let v140 : BitVec 32 := Scalar.addi v17 v39
  let v141 : Index := Scalar.indexCast v140
  let c0_89 : Index := 0#32
  ![0, v141.toNat, 0]
def k0_off26 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c128_i32_25 : BitVec 32 := 128#32
  let c1_i32_16 : BitVec 32 := 1#32
  let v28 : BitVec 32 := Scalar.subi c1_i32_16 v4
  let c128_i32_17 : BitVec 32 := 128#32
  let v29 : BitVec 32 := Scalar.muli v28 c128_i32_17
  let v38 : BitVec 32 := Scalar.subi c128_i32_25 v29
  let c64_i32_26 : BitVec 32 := 64#32
  let v39 : BitVec 32 := Scalar.addi v38 c64_i32_26
  let v140 : BitVec 32 := Scalar.addi v17 v39
  let v144 : Index := Scalar.indexCast v140
  let c0_90 : Index := 0#32
  ![v144.toNat, 0]
def k0_off27 (d0 : Dev nD) : Fin 3 → Nat :=
  let c0_i32_91 : BitVec 32 := 0#32
  let c128_i32_25 : BitVec 32 := 128#32
  let c1_i32_16 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v28 : BitVec 32 := Scalar.subi c1_i32_16 v4
  let c128_i32_17 : BitVec 32 := 128#32
  let v29 : BitVec 32 := Scalar.muli v28 c128_i32_17
  let v38 : BitVec 32 := Scalar.subi c128_i32_25 v29
  let c64_i32_26 : BitVec 32 := 64#32
  let v39 : BitVec 32 := Scalar.addi v38 c64_i32_26
  let c0_i32_96 : BitVec 32 := 0#32
  ![0, v39.toNat, 0]
def k0_off28 (d0 : Dev nD) : Fin 2 → Nat :=
  let c1_i32_7 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let v16 : BitVec 32 := Scalar.subi c1_i32_7 v5
  let c256_i32_8 : BitVec 32 := 256#32
  let v17 : BitVec 32 := Scalar.muli v16 c256_i32_8
  let c128_i32_25 : BitVec 32 := 128#32
  let c1_i32_16 : BitVec 32 := 1#32
  let v28 : BitVec 32 := Scalar.subi c1_i32_16 v4
  let c128_i32_17 : BitVec 32 := 128#32
  let v29 : BitVec 32 := Scalar.muli v28 c128_i32_17
  let v38 : BitVec 32 := Scalar.subi c128_i32_25 v29
  let c64_i32_26 : BitVec 32 := 64#32
  let v39 : BitVec 32 := Scalar.addi v38 c64_i32_26
  let v146 : BitVec 32 := Scalar.addi v17 v39
  let c0_i32_97 : BitVec 32 := 0#32
  ![v146.toNat, 0]
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_94 : BitVec 32 := 1#32
  let v147 : BitVec 32 := Scalar.muli v6 c1_i32_94
  let v148 : BitVec 32 := Scalar.addi c0_i32_95 v147
  v148.toNat
def k0_off29 (d0 : Dev nD) : Fin 3 → Nat :=
  let c0_98 : Index := 0#32
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c128_i32_29 : BitVec 32 := 128#32
  let c1_i32_0 : BitVec 32 := 1#32
  let v3 : BitVec 32 := Scalar.andi v2 c1_i32_0
  let c128_i32_18 : BitVec 32 := 128#32
  let v30 : BitVec 32 := Scalar.muli v3 c128_i32_18
  let v42 : BitVec 32 := Scalar.subi c128_i32_29 v30
  let c64_i32_30 : BitVec 32 := 64#32
  let v43 : BitVec 32 := Scalar.addi v42 c64_i32_30
  let v156 : BitVec 32 := Scalar.addi v27 v43
  let v157 : Index := Scalar.indexCast v156
  let c0_99 : Index := 0#32
  ![0, v157.toNat, 0]
def k0_off30 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c128_i32_29 : BitVec 32 := 128#32
  let c1_i32_0 : BitVec 32 := 1#32
  let v3 : BitVec 32 := Scalar.andi v2 c1_i32_0
  let c128_i32_18 : BitVec 32 := 128#32
  let v30 : BitVec 32 := Scalar.muli v3 c128_i32_18
  let v42 : BitVec 32 := Scalar.subi c128_i32_29 v30
  let c64_i32_30 : BitVec 32 := 64#32
  let v43 : BitVec 32 := Scalar.addi v42 c64_i32_30
  let v156 : BitVec 32 := Scalar.addi v27 v43
  let v160 : Index := Scalar.indexCast v156
  let c0_100 : Index := 0#32
  ![v160.toNat, 0]
def k0_off31 (d0 : Dev nD) : Fin 3 → Nat :=
  let c1_i32_101 : BitVec 32 := 1#32
  let c128_i32_29 : BitVec 32 := 128#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c128_i32_18 : BitVec 32 := 128#32
  let v30 : BitVec 32 := Scalar.muli v3 c128_i32_18
  let v42 : BitVec 32 := Scalar.subi c128_i32_29 v30
  let c64_i32_30 : BitVec 32 := 64#32
  let v43 : BitVec 32 := Scalar.addi v42 c64_i32_30
  let c0_i32_105 : BitVec 32 := 0#32
  ![1, v43.toNat, 0]
def k0_off32 (d0 : Dev nD) : Fin 2 → Nat :=
  let c512_i32_15 : BitVec 32 := 512#32
  let c1_i32_13 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v25 : BitVec 32 := Scalar.subi c1_i32_13 v4
  let c256_i32_14 : BitVec 32 := 256#32
  let v26 : BitVec 32 := Scalar.muli v25 c256_i32_14
  let v27 : BitVec 32 := Scalar.addi c512_i32_15 v26
  let c128_i32_29 : BitVec 32 := 128#32
  let c1_i32_0 : BitVec 32 := 1#32
  let v3 : BitVec 32 := Scalar.andi v2 c1_i32_0
  let c128_i32_18 : BitVec 32 := 128#32
  let v30 : BitVec 32 := Scalar.muli v3 c128_i32_18
  let v42 : BitVec 32 := Scalar.subi c128_i32_29 v30
  let c64_i32_30 : BitVec 32 := 64#32
  let v43 : BitVec 32 := Scalar.addi v42 c64_i32_30
  let v162 : BitVec 32 := Scalar.addi v27 v43
  let c0_i32_106 : BitVec 32 := 0#32
  ![v162.toNat, 0]
def k0_dev10 (d0 : Dev nD) : Nat :=
  let c0_i32_104 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_103 : BitVec 32 := 1#32
  let v163 : BitVec 32 := Scalar.muli v8 c1_i32_103
  let v164 : BitVec 32 := Scalar.addi c0_i32_104 v163
  v164.toNat
def k0_off33 (d0 : Dev nD) : Fin 3 → Nat :=
  let c0_107 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let c256_i32 : BitVec 32 := 256#32
  let v10 : BitVec 32 := Scalar.muli v5 c256_i32
  let v172 : Index := Scalar.indexCast v10
  let c0_108 : Index := 0#32
  ![0, v172.toNat, 0]
def k0_off34 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let c256_i32 : BitVec 32 := 256#32
  let v10 : BitVec 32 := Scalar.muli v5 c256_i32
  let v175 : Index := Scalar.indexCast v10
  let c0_109 : Index := 0#32
  ![v175.toNat, 0]
def k0_off35 (d0 : Dev nD) : Fin 3 → Nat :=
  let c0_110 : Index := 0#32
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c256_i32_9 : BitVec 32 := 256#32
  let v18 : BitVec 32 := Scalar.muli v4 c256_i32_9
  let v19 : BitVec 32 := Scalar.addi c512_i32 v18
  let v177 : Index := Scalar.indexCast v19
  let c0_111 : Index := 0#32
  ![0, v177.toNat, 0]
def k0_off36 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c256_i32_9 : BitVec 32 := 256#32
  let v18 : BitVec 32 := Scalar.muli v4 c256_i32_9
  let v19 : BitVec 32 := Scalar.addi c512_i32 v18
  let v180 : Index := Scalar.indexCast v19
  let c0_112 : Index := 0#32
  ![v180.toNat, 0]
def k0_off37 (d0 : Dev nD) (c0_i32_132 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let c256_i32 : BitVec 32 := 256#32
  let v10 : BitVec 32 := Scalar.muli v5 c256_i32
  let c1_i32_5 : BitVec 32 := 1#32
  let v13 : BitVec 32 := Scalar.subi c1_i32_5 v4
  let c128_i32_6 : BitVec 32 := 128#32
  let v14 : BitVec 32 := Scalar.muli v13 c128_i32_6
  let v15 : BitVec 32 := Scalar.addi v10 v14
  let v200 : BitVec 32 := Scalar.addi v15 c0_i32_132
  let v201 : Index := Scalar.indexCast v200
  let c0_133 : Index := 0#32
  ![v201.toNat, 0]
def k0_off38 (d0 : Dev nD) (c0_i32_134 : BitVec 32) : Fin 3 → Nat :=
  let c0_135 : Index := 0#32
  let c1_i32_113 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v182 : BitVec 32 := Scalar.subi c1_i32_113 v4
  let c128_i32_114 : BitVec 32 := 128#32
  let v183 : BitVec 32 := Scalar.muli v182 c128_i32_114
  let v204 : BitVec 32 := Scalar.addi v183 c0_i32_134
  let v205 : Index := Scalar.indexCast v204
  let c0_136 : Index := 0#32
  ![0, v205.toNat, 0]
def k0_off39 (d0 : Dev nD) (c0_i32_139 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let c256_i32 : BitVec 32 := 256#32
  let v10 : BitVec 32 := Scalar.muli v5 c256_i32
  let c1_i32_5 : BitVec 32 := 1#32
  let v13 : BitVec 32 := Scalar.subi c1_i32_5 v4
  let c128_i32_6 : BitVec 32 := 128#32
  let v14 : BitVec 32 := Scalar.muli v13 c128_i32_6
  let v15 : BitVec 32 := Scalar.addi v10 v14
  let v212 : BitVec 32 := Scalar.addi v15 c0_i32_139
  let c0_i32_146 : BitVec 32 := 0#32
  ![v212.toNat, 0]
def k0_dev11 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_142 : BitVec 32 := 1#32
  let v213 : BitVec 32 := Scalar.muli v7 c1_i32_142
  let v214 : BitVec 32 := Scalar.addi c0_i32_143 v213
  v214.toNat
def k0_off40 (d0 : Dev nD) (c0_i32_160 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c256_i32_9 : BitVec 32 := 256#32
  let v18 : BitVec 32 := Scalar.muli v4 c256_i32_9
  let v19 : BitVec 32 := Scalar.addi c512_i32 v18
  let c1_i32_11 : BitVec 32 := 1#32
  let c1_i32_0 : BitVec 32 := 1#32
  let v3 : BitVec 32 := Scalar.andi v2 c1_i32_0
  let v22 : BitVec 32 := Scalar.subi c1_i32_11 v3
  let c128_i32_12 : BitVec 32 := 128#32
  let v23 : BitVec 32 := Scalar.muli v22 c128_i32_12
  let v24 : BitVec 32 := Scalar.addi v19 v23
  let v234 : BitVec 32 := Scalar.addi v24 c0_i32_160
  let v235 : Index := Scalar.indexCast v234
  let c0_161 : Index := 0#32
  ![v235.toNat, 0]
def k0_off41 (d0 : Dev nD) (c0_i32_162 : BitVec 32) : Fin 3 → Nat :=
  let c1 : Index := 1#32
  let c1_i32_115 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let v184 : BitVec 32 := Scalar.subi c1_i32_115 v3
  let c128_i32_116 : BitVec 32 := 128#32
  let v185 : BitVec 32 := Scalar.muli v184 c128_i32_116
  let v238 : BitVec 32 := Scalar.addi v185 c0_i32_162
  let v239 : Index := Scalar.indexCast v238
  let c0_163 : Index := 0#32
  ![1, v239.toNat, 0]
def k0_off42 (d0 : Dev nD) (c0_i32_166 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c256_i32_9 : BitVec 32 := 256#32
  let v18 : BitVec 32 := Scalar.muli v4 c256_i32_9
  let v19 : BitVec 32 := Scalar.addi c512_i32 v18
  let c1_i32_11 : BitVec 32 := 1#32
  let c1_i32_0 : BitVec 32 := 1#32
  let v3 : BitVec 32 := Scalar.andi v2 c1_i32_0
  let v22 : BitVec 32 := Scalar.subi c1_i32_11 v3
  let c128_i32_12 : BitVec 32 := 128#32
  let v23 : BitVec 32 := Scalar.muli v22 c128_i32_12
  let v24 : BitVec 32 := Scalar.addi v19 v23
  let v246 : BitVec 32 := Scalar.addi v24 c0_i32_166
  let c0_i32_173 : BitVec 32 := 0#32
  ![v246.toNat, 0]
def k0_dev12 (d0 : Dev nD) : Nat :=
  let c0_i32_170 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v9 : BitVec 32 := Scalar.xori v2 c1_i32_4
  let c1_i32_169 : BitVec 32 := 1#32
  let v247 : BitVec 32 := Scalar.muli v9 c1_i32_169
  let v248 : BitVec 32 := Scalar.addi c0_i32_170 v247
  v248.toNat
def k0_dev13 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_197 : BitVec 32 := 1#32
  let v281 : BitVec 32 := Scalar.muli v7 c1_i32_197
  let v282 : BitVec 32 := Scalar.addi c0_i32_198 v281
  v282.toNat
def k0_dev14 (d0 : Dev nD) : Nat :=
  let c0_i32_226 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v9 : BitVec 32 := Scalar.xori v2 c1_i32_4
  let c1_i32_225 : BitVec 32 := 1#32
  let v315 : BitVec 32 := Scalar.muli v9 c1_i32_225
  let v316 : BitVec 32 := Scalar.addi c0_i32_226 v315
  v316.toNat
def k0_off43 (d0 : Dev nD) (c0_i32_243 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let c256_i32 : BitVec 32 := 256#32
  let v10 : BitVec 32 := Scalar.muli v5 c256_i32
  let c128_i32 : BitVec 32 := 128#32
  let v11 : BitVec 32 := Scalar.muli v4 c128_i32
  let v12 : BitVec 32 := Scalar.addi v10 v11
  let v336 : BitVec 32 := Scalar.addi v12 c0_i32_243
  let v337 : Index := Scalar.indexCast v336
  let c0_244 : Index := 0#32
  ![v337.toNat, 0]
def k0_off44 (d0 : Dev nD) (c0_i32_245 : BitVec 32) : Fin 3 → Nat :=
  let c0_246 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c128_i32_117 : BitVec 32 := 128#32
  let v186 : BitVec 32 := Scalar.muli v4 c128_i32_117
  let v340 : BitVec 32 := Scalar.addi v186 c0_i32_245
  let v341 : Index := Scalar.indexCast v340
  let c0_247 : Index := 0#32
  ![0, v341.toNat, 0]
def k0_off45 (d0 : Dev nD) (c0_i32_263 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c256_i32_9 : BitVec 32 := 256#32
  let v18 : BitVec 32 := Scalar.muli v4 c256_i32_9
  let v19 : BitVec 32 := Scalar.addi c512_i32 v18
  let c1_i32_0 : BitVec 32 := 1#32
  let v3 : BitVec 32 := Scalar.andi v2 c1_i32_0
  let c128_i32_10 : BitVec 32 := 128#32
  let v20 : BitVec 32 := Scalar.muli v3 c128_i32_10
  let v21 : BitVec 32 := Scalar.addi v19 v20
  let v360 : BitVec 32 := Scalar.addi v21 c0_i32_263
  let v361 : Index := Scalar.indexCast v360
  let c0_264 : Index := 0#32
  ![v361.toNat, 0]
def k0_off46 (d0 : Dev nD) (c0_i32_265 : BitVec 32) : Fin 3 → Nat :=
  let c1_266 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c128_i32_118 : BitVec 32 := 128#32
  let v187 : BitVec 32 := Scalar.muli v3 c128_i32_118
  let v364 : BitVec 32 := Scalar.addi v187 c0_i32_265
  let v365 : Index := Scalar.indexCast v364
  let c0_267 : Index := 0#32
  ![1, v365.toNat, 0]
def k0_off47 (d0 : Dev nD) (c0_i32_333 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v5 : BitVec 32 := Scalar.xori v3 v4
  let c256_i32 : BitVec 32 := 256#32
  let v10 : BitVec 32 := Scalar.muli v5 c256_i32
  let c128_i32 : BitVec 32 := 128#32
  let v11 : BitVec 32 := Scalar.muli v4 c128_i32
  let v12 : BitVec 32 := Scalar.addi v10 v11
  let v443 : BitVec 32 := Scalar.addi v12 c0_i32_333
  let c0_i32_337 : BitVec 32 := 0#32
  ![v443.toNat, 0]
def k0_dev15 (d0 : Dev nD) : Nat :=
  let c0_i32_336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_335 : BitVec 32 := 1#32
  let v444 : BitVec 32 := Scalar.muli v7 c1_i32_335
  let v445 : BitVec 32 := Scalar.addi c0_i32_336 v444
  v445.toNat
def k0_dev16 (d0 : Dev nD) : Nat :=
  let c0_i32_343 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_342 : BitVec 32 := 1#32
  let v454 : BitVec 32 := Scalar.muli v6 c1_i32_342
  let v455 : BitVec 32 := Scalar.addi c0_i32_343 v454
  v455.toNat
def k0_off48 (d0 : Dev nD) (c0_i32_369 : BitVec 32) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c256_i32_9 : BitVec 32 := 256#32
  let v18 : BitVec 32 := Scalar.muli v4 c256_i32_9
  let v19 : BitVec 32 := Scalar.addi c512_i32 v18
  let c1_i32_0 : BitVec 32 := 1#32
  let v3 : BitVec 32 := Scalar.andi v2 c1_i32_0
  let c128_i32_10 : BitVec 32 := 128#32
  let v20 : BitVec 32 := Scalar.muli v3 c128_i32_10
  let v21 : BitVec 32 := Scalar.addi v19 v20
  let v485 : BitVec 32 := Scalar.addi v21 c0_i32_369
  let c0_i32_373 : BitVec 32 := 0#32
  ![v485.toNat, 0]
def k0_dev17 (d0 : Dev nD) : Nat :=
  let c0_i32_372 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v9 : BitVec 32 := Scalar.xori v2 c1_i32_4
  let c1_i32_371 : BitVec 32 := 1#32
  let v486 : BitVec 32 := Scalar.muli v9 c1_i32_371
  let v487 : BitVec 32 := Scalar.addi c0_i32_372 v486
  v487.toNat
def k0_dev18 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_378 : BitVec 32 := 1#32
  let v496 : BitVec 32 := Scalar.muli v8 c1_i32_378
  let v497 : BitVec 32 := Scalar.addi c0_i32_379 v496
  v497.toNat
def k0_dev19 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.xori v2 c3_i32
  let c1_i32_406 : BitVec 32 := 1#32
  let v528 : BitVec 32 := Scalar.muli v7 c1_i32_406
  let v529 : BitVec 32 := Scalar.addi c0_i32_407 v528
  v529.toNat
def k0_dev20 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_413 : BitVec 32 := 1#32
  let v538 : BitVec 32 := Scalar.muli v6 c1_i32_413
  let v539 : BitVec 32 := Scalar.addi c0_i32_414 v538
  v539.toNat
def k0_dev21 (d0 : Dev nD) : Nat :=
  let c0_i32_443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_4 : BitVec 32 := 1#32
  let v9 : BitVec 32 := Scalar.xori v2 c1_i32_4
  let c1_i32_442 : BitVec 32 := 1#32
  let v570 : BitVec 32 := Scalar.muli v9 c1_i32_442
  let v571 : BitVec 32 := Scalar.addi c0_i32_443 v570
  v571.toNat
def k0_dev22 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_449 : BitVec 32 := 1#32
  let v580 : BitVec 32 := Scalar.muli v8 c1_i32_449
  let v581 : BitVec 32 := Scalar.addi c0_i32_450 v580
  v581.toNat
def k0_dev23 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_467 : BitVec 32 := 1#32
  let v600 : BitVec 32 := Scalar.muli v6 c1_i32_467
  let v601 : BitVec 32 := Scalar.addi c0_i32_468 v600
  v601.toNat
def k0_dev24 (d0 : Dev nD) : Nat :=
  let c0_i32_486 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_485 : BitVec 32 := 1#32
  let v620 : BitVec 32 := Scalar.muli v8 c1_i32_485
  let v621 : BitVec 32 := Scalar.addi c0_i32_486 v620
  v621.toNat
def k0_dev25 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.xori v2 c1_i32_2
  let c1_i32_503 : BitVec 32 := 1#32
  let v640 : BitVec 32 := Scalar.muli v6 c1_i32_503
  let v641 : BitVec 32 := Scalar.addi c0_i32_504 v640
  v641.toNat
def k0_dev26 (d0 : Dev nD) : Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3 : BitVec 32 := 3#32
  let v8 : BitVec 32 := Scalar.xori v2 c3_i32_3
  let c1_i32_521 : BitVec 32 := 1#32
  let v660 : BitVec 32 := Scalar.muli v8 c1_i32_521
  let v661 : BitVec 32 := Scalar.addi c0_i32_522 v660
  v661.toNat
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .f32⟩
  | .hbm, ⟨2, _⟩ => ⟨S_, .f32⟩
  | .hbm, ⟨3, _⟩ => ⟨S1024x1024, .f32⟩
  | .hbm, ⟨4, _⟩ => ⟨S1024x1024, .bf16⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.I.Plan.lean ====
/-
  The plan of the all-reduce: who talks to whom, and which block each message carries.

  Four devices. Device `c` exchanges with `x1 c` (its number with the lowest bit flipped) and with
  `x3 c` (both bits flipped). There are 24 messages per device. Message `k` of device `c` goes to
  `tgt k c`, which is an involution in `c`. The 1024 rows are cut into 16 blocks of 64 rows, and
  message `k` of device `c` reads block `wsrc k c` of its output buffer.

    messages  0 –  3   first half, first exchange    into the first receive buffer, to `x1`
    messages  4 –  7   second half, first exchange   into the first receive buffer, to `x3`
    messages  8,  9    first half, second exchange   into the second receive buffer, to `x3`
    messages 10, 11    second half, second exchange  into the second receive buffer, to `x1`
    messages 12 – 23   finished blocks, handed on into the same block of the partner's output
-/
module

public import proofs.«01_k».proof.Proof.Gen.KernelIdeal

@[expose] public section

namespace Cert.KernelIdeal.Ar

open Idealize.ShloMosaic Cert.KernelIdeal.Gen

/-- The two bits of a device's number. -/
def b0 (c : Dev nD) : ℕ := c.val % 2
def b1 (c : Dev nD) : ℕ := c.val / 2
/-- Their exclusive or. -/
def gr (c : Dev nD) : ℕ := (b0 c + b1 c) % 2

/-- The partner with the lowest bit flipped, and the one with both bits flipped. -/
def x1 (c : Dev nD) : Dev nD := ⟨2 * b1 c + (1 - b0 c), by revert c; decide⟩
def x3 (c : Dev nD) : Dev nD := ⟨2 * (1 - b1 c) + (1 - b0 c), by revert c; decide⟩

theorem x1_x1 (c : Dev nD) : x1 (x1 c) = c := by revert c; decide
theorem x3_x3 (c : Dev nD) : x3 (x3 c) = c := by revert c; decide
theorem x1_ne_x3 (c : Dev nD) : x1 c ≠ x3 c := by revert c; decide

/-- Does message `k` go to `x1`? -/
def toX1 (k : Fin 24) : Bool :=
  k.val < 4 || (10 ≤ k.val && k.val < 12) || (14 ≤ k.val && k.val < 20)

/-- Where message `k` of device `c` goes. -/
def tgt (k : Fin 24) (c : Dev nD) : Dev nD := if toX1 k then x1 c else x3 c

theorem tgt_tgt (k : Fin 24) (c : Dev nD) : tgt k (tgt k c) = c := by revert k c; decide

def tgtEquiv (k : Fin 24) : Dev nD ≃ Dev nD := ⟨tgt k, tgt k, tgt_tgt k, tgt_tgt k⟩
def x1Equiv : Dev nD ≃ Dev nD := ⟨x1, x1, x1_x1, x1_x1⟩
def x3Equiv : Dev nD ≃ Dev nD := ⟨x3, x3, x3_x3, x3_x3⟩

/-! ### Blocks of 64 rows -/

/-- The first half: the half-of-a-half that `c` keeps starts at block `hA c`, the quarter it finishes at
    `qA c`, the quarter it hands to `x3 c` at `oA c`, the part it hands to `x1 c` at `sA c`. -/
def hA (c : Dev nD) : ℕ := 4 * gr c
def sA (c : Dev nD) : ℕ := 4 * (1 - gr c)
def qA (c : Dev nD) : ℕ := hA c + 2 * b1 c
def oA (c : Dev nD) : ℕ := hA c + 2 * (1 - b1 c)
/-- The second half, in the same way: kept with `x3`, finished with `x1`. -/
def hB (c : Dev nD) : ℕ := 8 + 4 * b1 c
def sB (c : Dev nD) : ℕ := 8 + 4 * (1 - b1 c)
def qB (c : Dev nD) : ℕ := hB c + 2 * b0 c
def oB (c : Dev nD) : ℕ := hB c + 2 * (1 - b0 c)

/-- The order in which the four blocks of the first exchange are sent: the ones the partner hands on come first. -/
def ra (c : Dev nD) (j : ℕ) : ℕ := if j < 2 then 2 * (1 - b1 c) + j else 2 * b1 c + (j - 2)
def rb (c : Dev nD) (j : ℕ) : ℕ := if j < 2 then 2 * b0 c + j else 2 * (1 - b0 c) + (j - 2)

/-- The block of the output buffer that message `k` of device `c` reads. -/
def wsrcN (k : ℕ) (c : Dev nD) : ℕ :=
  if k < 4 then sA c + ra c k
  else if k < 8 then sB c + rb c (k - 4)
  else if k < 10 then oA c + (k - 8)
  else if k < 12 then oB c + (k - 10)
  else if k < 14 then qA c + (k - 12)
  else if k < 16 then qB c + (k - 14)
  else if k < 18 then qA c + (k - 16)
  else if k < 20 then oA c + (k - 18)
  else if k < 22 then qB c + (k - 20)
  else oB c + (k - 22)

theorem wsrcN_lt (k : Fin 24) (c : Dev nD) : wsrcN k.val c < 16 := by revert k c; decide
def wsrc (k : Fin 24) (c : Dev nD) : Fin 16 := ⟨wsrcN k.val c, wsrcN_lt k c⟩

/-- The block of the first receive buffer (two slabs of four blocks) that message `k < 8` of device `c` fills. -/
def r1dstN (k : ℕ) (c : Dev nD) : ℕ := if k < 4 then ra c k else 4 + rb c (k - 4)
theorem r1dstN_lt (k : Fin 24) (c : Dev nD) : r1dstN k.val c % 8 < 8 := Nat.mod_lt _ (by decide)
def r1dst (k : Fin 24) (c : Dev nD) : Fin 8 := ⟨r1dstN k.val c % 8, r1dstN_lt k c⟩

/-- The block of the second receive buffer (two slabs of two blocks) that message `8 ≤ k < 12` fills. -/
def r2dst (k : Fin 24) : Fin 4 := ⟨(k.val - 8) % 4, Nat.mod_lt _ (by decide)⟩

/-! ### The order of the sends, and the levels -/

/-- The place of message `k` in the order in which a device sends. -/
def pos (k : Fin 24) : ℕ :=
  (![0, 2, 4, 6, 1, 3, 5, 7, 8, 10, 9, 11, 12, 16, 14, 18, 13, 17, 20, 22, 15, 19, 21, 23] : Fin 24 → ℕ) k

/-- The messages not sent yet after `n` sends. -/
def unsent (n : ℕ) : Finset (Fin 24) := Finset.univ.filter fun k => n ≤ pos k

theorem unsent_zero : unsent 0 = Finset.univ := by decide
theorem unsent_last : unsent 24 = ∅ := by decide
theorem unsent_step (k : Fin 24) : unsent (pos k) = insert k (unsent (pos k + 1)) ∧ k ∉ unsent (pos k + 1) := by
  revert k; decide

/-- The level of message `k`'s receive cell: what a device waits for lies below everything it still owes. -/
def rlev (k : Fin 24) : ℕ := if k.val < 8 then 2 else if k.val < 12 then 3 else if k.val < 16 then 4 else 5

/-! ### The finished rows -/

/-- The device that finishes block `n`. -/
def own (n : Fin 16) : Dev nD :=
  (![0, 0, 3, 3, 1, 1, 2, 2, 0, 0, 1, 1, 2, 2, 3, 3] : Fin 16 → Dev nD) n

/-- The partner of the first, and of the second exchange, by block. -/
def p1 (n : Fin 16) (c : Dev nD) : Dev nD := if n.val < 8 then x1 c else x3 c
def p2 (n : Fin 16) (c : Dev nD) : Dev nD := if n.val < 8 then x3 c else x1 c

/-! ### Cross facts of the plan -/

/-- The two big blocks (256 rows) a device keeps. -/
def h4A (c : Dev nD) : Fin 4 := ⟨gr c, by revert c; decide⟩
def h4B (c : Dev nD) : Fin 4 := ⟨2 + b1 c, by revert c; decide⟩

/-- The finished blocks handed on: message `k ≥ 12` travels to the place its receiver sent with `pre k`, and carries
    the block that message `srcB k` also names. -/
def pre (k : Fin 24) : Fin 24 := (![0,1,2,3,4,5,6,7,8,9,10,11, 8,9, 10,11, 2,3, 0,1, 6,7, 4,5] : Fin 24 → Fin 24) k
def srcB (k : Fin 24) : Fin 24 := (![0,1,2,3,4,5,6,7,8,9,10,11, 12,13, 14,15, 12,13, 8,9, 14,15, 10,11] : Fin 24 → Fin 24) k

theorem wsrc_pre (k : Fin 24) (c : Dev nD) : wsrc (pre k) (tgt k c) = wsrc k c ∨ k.val < 12 := by revert k c; decide
theorem wsrc_srcB (k : Fin 24) (c : Dev nD) : wsrc (srcB k) c = wsrc k c := by revert k c; decide

/-! ### The program's offsets and devices, in closed form -/

theorem off1_eq : ∀ c : Dev nD, k0_off1 c = ![0, 64 * (wsrc 0 c).val, 0] := by decide +kernel
theorem off2_eq : ∀ c : Dev nD, k0_off2 c = ![64 * (wsrc 0 c).val, 0] := by decide +kernel
theorem off3_eq : ∀ c : Dev nD, k0_off3 c = ![(r1dst 0 c).val / 4, 64 * ((r1dst 0 c).val % 4), 0] := by decide +kernel
theorem off4_eq : ∀ c : Dev nD, k0_off4 c = ![64 * (wsrc 0 c).val, 0] := by decide +kernel
theorem off5_eq : ∀ c : Dev nD, k0_off5 c = ![0, 64 * (wsrc 4 c).val, 0] := by decide +kernel
theorem off6_eq : ∀ c : Dev nD, k0_off6 c = ![64 * (wsrc 4 c).val, 0] := by decide +kernel
theorem off7_eq : ∀ c : Dev nD, k0_off7 c = ![(r1dst 4 c).val / 4, 64 * ((r1dst 4 c).val % 4), 0] := by decide +kernel
theorem off8_eq : ∀ c : Dev nD, k0_off8 c = ![64 * (wsrc 4 c).val, 0] := by decide +kernel
theorem off9_eq : ∀ c : Dev nD, k0_off9 c = ![0, 64 * (wsrc 1 c).val, 0] := by decide +kernel
theorem off10_eq : ∀ c : Dev nD, k0_off10 c = ![64 * (wsrc 1 c).val, 0] := by decide +kernel
theorem off11_eq : ∀ c : Dev nD, k0_off11 c = ![(r1dst 1 c).val / 4, 64 * ((r1dst 1 c).val % 4), 0] := by decide +kernel
theorem off12_eq : ∀ c : Dev nD, k0_off12 c = ![64 * (wsrc 1 c).val, 0] := by decide +kernel
theorem off13_eq : ∀ c : Dev nD, k0_off13 c = ![0, 64 * (wsrc 5 c).val, 0] := by decide +kernel
theorem off14_eq : ∀ c : Dev nD, k0_off14 c = ![64 * (wsrc 5 c).val, 0] := by decide +kernel
theorem off15_eq : ∀ c : Dev nD, k0_off15 c = ![(r1dst 5 c).val / 4, 64 * ((r1dst 5 c).val % 4), 0] := by decide +kernel
theorem off16_eq : ∀ c : Dev nD, k0_off16 c = ![64 * (wsrc 5 c).val, 0] := by decide +kernel
theorem off17_eq : ∀ c : Dev nD, k0_off17 c = ![0, 64 * (wsrc 2 c).val, 0] := by decide +kernel
theorem off18_eq : ∀ c : Dev nD, k0_off18 c = ![64 * (wsrc 2 c).val, 0] := by decide +kernel
theorem off19_eq : ∀ c : Dev nD, k0_off19 c = ![(r1dst 2 c).val / 4, 64 * ((r1dst 2 c).val % 4), 0] := by decide +kernel
theorem off20_eq : ∀ c : Dev nD, k0_off20 c = ![64 * (wsrc 2 c).val, 0] := by decide +kernel
theorem off21_eq : ∀ c : Dev nD, k0_off21 c = ![0, 64 * (wsrc 6 c).val, 0] := by decide +kernel
theorem off22_eq : ∀ c : Dev nD, k0_off22 c = ![64 * (wsrc 6 c).val, 0] := by decide +kernel
theorem off23_eq : ∀ c : Dev nD, k0_off23 c = ![(r1dst 6 c).val / 4, 64 * ((r1dst 6 c).val % 4), 0] := by decide +kernel
theorem off24_eq : ∀ c : Dev nD, k0_off24 c = ![64 * (wsrc 6 c).val, 0] := by decide +kernel
theorem off25_eq : ∀ c : Dev nD, k0_off25 c = ![0, 64 * (wsrc 3 c).val, 0] := by decide +kernel
theorem off26_eq : ∀ c : Dev nD, k0_off26 c = ![64 * (wsrc 3 c).val, 0] := by decide +kernel
theorem off27_eq : ∀ c : Dev nD, k0_off27 c = ![(r1dst 3 c).val / 4, 64 * ((r1dst 3 c).val % 4), 0] := by decide +kernel
theorem off28_eq : ∀ c : Dev nD, k0_off28 c = ![64 * (wsrc 3 c).val, 0] := by decide +kernel
theorem off29_eq : ∀ c : Dev nD, k0_off29 c = ![0, 64 * (wsrc 7 c).val, 0] := by decide +kernel
theorem off30_eq : ∀ c : Dev nD, k0_off30 c = ![64 * (wsrc 7 c).val, 0] := by decide +kernel
theorem off31_eq : ∀ c : Dev nD, k0_off31 c = ![(r1dst 7 c).val / 4, 64 * ((r1dst 7 c).val % 4), 0] := by decide +kernel
theorem off32_eq : ∀ c : Dev nD, k0_off32 c = ![64 * (wsrc 7 c).val, 0] := by decide +kernel
theorem off33_eq : ∀ c : Dev nD, k0_off33 c = ![0, 256 * (h4A c).val, 0] := by decide +kernel
theorem off34_eq : ∀ c : Dev nD, k0_off34 c = ![256 * (h4A c).val, 0] := by decide +kernel
theorem off35_eq : ∀ c : Dev nD, k0_off35 c = ![0, 256 * (h4B c).val, 0] := by decide +kernel
theorem off36_eq : ∀ c : Dev nD, k0_off36 c = ![256 * (h4B c).val, 0] := by decide +kernel
theorem off37_eq0 : ∀ c : Dev nD, k0_off37 c 0#32 = ![64 * (wsrc 8 c).val, 0] := by decide +kernel
theorem off38_eq0 : ∀ c : Dev nD, k0_off38 c 0#32 = ![(r1dst 0 (tgt 0 c)).val / 4, 64 * ((r1dst 0 (tgt 0 c)).val % 4), 0] := by decide +kernel
theorem off37_eq1 : ∀ c : Dev nD, k0_off37 c 64#32 = ![64 * (wsrc 9 c).val, 0] := by decide +kernel
theorem off38_eq1 : ∀ c : Dev nD, k0_off38 c 64#32 = ![(r1dst 1 (tgt 1 c)).val / 4, 64 * ((r1dst 1 (tgt 1 c)).val % 4), 0] := by decide +kernel
theorem off40_eq0 : ∀ c : Dev nD, k0_off40 c 0#32 = ![64 * (wsrc 10 c).val, 0] := by decide +kernel
theorem off41_eq0 : ∀ c : Dev nD, k0_off41 c 0#32 = ![(r1dst 4 (tgt 4 c)).val / 4, 64 * ((r1dst 4 (tgt 4 c)).val % 4), 0] := by decide +kernel
theorem off40_eq1 : ∀ c : Dev nD, k0_off40 c 64#32 = ![64 * (wsrc 11 c).val, 0] := by decide +kernel
theorem off41_eq1 : ∀ c : Dev nD, k0_off41 c 64#32 = ![(r1dst 5 (tgt 5 c)).val / 4, 64 * ((r1dst 5 (tgt 5 c)).val % 4), 0] := by decide +kernel
theorem off43_eq0 : ∀ c : Dev nD, k0_off43 c 0#32 = ![64 * (wsrc 12 c).val, 0] := by decide +kernel
theorem off44_eq0 : ∀ c : Dev nD, k0_off44 c 0#32 = ![(r1dst 2 (tgt 2 c)).val / 4, 64 * ((r1dst 2 (tgt 2 c)).val % 4), 0] := by decide +kernel
theorem off43_eq1 : ∀ c : Dev nD, k0_off43 c 64#32 = ![64 * (wsrc 13 c).val, 0] := by decide +kernel
theorem off44_eq1 : ∀ c : Dev nD, k0_off44 c 64#32 = ![(r1dst 3 (tgt 3 c)).val / 4, 64 * ((r1dst 3 (tgt 3 c)).val % 4), 0] := by decide +kernel
theorem off45_eq0 : ∀ c : Dev nD, k0_off45 c 0#32 = ![64 * (wsrc 14 c).val, 0] := by decide +kernel
theorem off46_eq0 : ∀ c : Dev nD, k0_off46 c 0#32 = ![(r1dst 6 (tgt 6 c)).val / 4, 64 * ((r1dst 6 (tgt 6 c)).val % 4), 0] := by decide +kernel
theorem off45_eq1 : ∀ c : Dev nD, k0_off45 c 64#32 = ![64 * (wsrc 15 c).val, 0] := by decide +kernel
theorem off46_eq1 : ∀ c : Dev nD, k0_off46 c 64#32 = ![(r1dst 7 (tgt 7 c)).val / 4, 64 * ((r1dst 7 (tgt 7 c)).val % 4), 0] := by decide +kernel
theorem off39_eq0 : ∀ c : Dev nD, k0_off39 c 0#32 = ![64 * (wsrc 8 c).val, 0] := by decide +kernel
theorem off39_eq1 : ∀ c : Dev nD, k0_off39 c 64#32 = ![64 * (wsrc 9 c).val, 0] := by decide +kernel
theorem off42_eq0 : ∀ c : Dev nD, k0_off42 c 0#32 = ![64 * (wsrc 10 c).val, 0] := by decide +kernel
theorem off42_eq1 : ∀ c : Dev nD, k0_off42 c 64#32 = ![64 * (wsrc 11 c).val, 0] := by decide +kernel
theorem off47_eq0 : ∀ c : Dev nD, k0_off47 c 0#32 = ![64 * (wsrc 12 c).val, 0] := by decide +kernel
theorem off47_eq1 : ∀ c : Dev nD, k0_off47 c 64#32 = ![64 * (wsrc 13 c).val, 0] := by decide +kernel
theorem off48_eq0 : ∀ c : Dev nD, k0_off48 c 0#32 = ![64 * (wsrc 14 c).val, 0] := by decide +kernel
theorem off48_eq1 : ∀ c : Dev nD, k0_off48 c 64#32 = ![64 * (wsrc 15 c).val, 0] := by decide +kernel

theorem dev1_eq : ∀ c : Dev nD, (⟨k0_dev1 c, Facts₀.k0_dev1_lt c⟩ : Dev nD) = x1 c := by decide +kernel
theorem dev2_eq : ∀ c : Dev nD, (⟨k0_dev2 c, Facts₀.k0_dev2_lt c⟩ : Dev nD) = x3 c := by decide +kernel
theorem dev3_eq : ∀ c : Dev nD, (⟨k0_dev3 c, Facts₀.k0_dev3_lt c⟩ : Dev nD) = tgt 0 c := by decide +kernel
theorem dev4_eq : ∀ c : Dev nD, (⟨k0_dev4 c, Facts₀.k0_dev4_lt c⟩ : Dev nD) = tgt 4 c := by decide +kernel
theorem dev5_eq : ∀ c : Dev nD, (⟨k0_dev5 c, Facts₀.k0_dev5_lt c⟩ : Dev nD) = tgt 1 c := by decide +kernel
theorem dev6_eq : ∀ c : Dev nD, (⟨k0_dev6 c, Facts₀.k0_dev6_lt c⟩ : Dev nD) = tgt 5 c := by decide +kernel
theorem dev7_eq : ∀ c : Dev nD, (⟨k0_dev7 c, Facts₀.k0_dev7_lt c⟩ : Dev nD) = tgt 2 c := by decide +kernel
theorem dev8_eq : ∀ c : Dev nD, (⟨k0_dev8 c, Facts₀.k0_dev8_lt c⟩ : Dev nD) = tgt 6 c := by decide +kernel
theorem dev9_eq : ∀ c : Dev nD, (⟨k0_dev9 c, Facts₀.k0_dev9_lt c⟩ : Dev nD) = tgt 3 c := by decide +kernel
theorem dev10_eq : ∀ c : Dev nD, (⟨k0_dev10 c, Facts₀.k0_dev10_lt c⟩ : Dev nD) = tgt 7 c := by decide +kernel
theorem dev11_eq : ∀ c : Dev nD, (⟨k0_dev11 c, Facts₀.k0_dev11_lt c⟩ : Dev nD) = tgt 8 c := by decide +kernel
theorem dev12_eq : ∀ c : Dev nD, (⟨k0_dev12 c, Facts₀.k0_dev12_lt c⟩ : Dev nD) = tgt 10 c := by decide +kernel
theorem dev13_eq : ∀ c : Dev nD, (⟨k0_dev13 c, Facts₀.k0_dev13_lt c⟩ : Dev nD) = tgt 9 c := by decide +kernel
theorem dev14_eq : ∀ c : Dev nD, (⟨k0_dev14 c, Facts₀.k0_dev14_lt c⟩ : Dev nD) = tgt 11 c := by decide +kernel
theorem dev15_eq : ∀ c : Dev nD, (⟨k0_dev15 c, Facts₀.k0_dev15_lt c⟩ : Dev nD) = tgt 12 c := by decide +kernel
theorem dev16_eq : ∀ c : Dev nD, (⟨k0_dev16 c, Facts₀.k0_dev16_lt c⟩ : Dev nD) = tgt 16 c := by decide +kernel
theorem dev17_eq : ∀ c : Dev nD, (⟨k0_dev17 c, Facts₀.k0_dev17_lt c⟩ : Dev nD) = tgt 14 c := by decide +kernel
theorem dev18_eq : ∀ c : Dev nD, (⟨k0_dev18 c, Facts₀.k0_dev18_lt c⟩ : Dev nD) = tgt 20 c := by decide +kernel
theorem dev19_eq : ∀ c : Dev nD, (⟨k0_dev19 c, Facts₀.k0_dev19_lt c⟩ : Dev nD) = tgt 13 c := by decide +kernel
theorem dev20_eq : ∀ c : Dev nD, (⟨k0_dev20 c, Facts₀.k0_dev20_lt c⟩ : Dev nD) = tgt 17 c := by decide +kernel
theorem dev21_eq : ∀ c : Dev nD, (⟨k0_dev21 c, Facts₀.k0_dev21_lt c⟩ : Dev nD) = tgt 15 c := by decide +kernel
theorem dev22_eq : ∀ c : Dev nD, (⟨k0_dev22 c, Facts₀.k0_dev22_lt c⟩ : Dev nD) = tgt 21 c := by decide +kernel
theorem dev23_eq : ∀ c : Dev nD, (⟨k0_dev23 c, Facts₀.k0_dev23_lt c⟩ : Dev nD) = tgt 18 c := by decide +kernel
theorem dev24_eq : ∀ c : Dev nD, (⟨k0_dev24 c, Facts₀.k0_dev24_lt c⟩ : Dev nD) = tgt 22 c := by decide +kernel
theorem dev25_eq : ∀ c : Dev nD, (⟨k0_dev25 c, Facts₀.k0_dev25_lt c⟩ : Dev nD) = tgt 19 c := by decide +kernel
theorem dev26_eq : ∀ c : Dev nD, (⟨k0_dev26 c, Facts₀.k0_dev26_lt c⟩ : Dev nD) = tgt 23 c := by decide +kernel

end Cert.KernelIdeal.Ar

end
-- ==== Proof.I.Views.lean ====
/-
  The kernel's blocks as sets of elements of its buffers, and what a load, a store and a landing copy
  do to a buffer's contents on one block.

  The output buffer is 1024 rows, cut into 16 blocks of 64. The first receive buffer is two slabs of 256
  rows (8 blocks), the second two slabs of 128 rows (4 blocks).
-/
module

public import proofs.«01_k».proof.Proof.I.Plan
public import Idealize.ShloMosaic.Lib.Pipeline.Kit
public import Idealize.ShloMosaic.Lib.Pipeline.ValueKit.Geometry
public import Idealize.ShloMosaic.Lib.ValueLayout
public import Idealize.ShloMosaic.Lib.Tactic

@[expose] public section

noncomputable section

namespace Cert.KernelIdeal.Ar

open Cert.KernelIdeal.Facts₀
open Idealize.ShloMosaic Idealize.ShloMosaic.ValueIdx

variable {F : FTy → Type} [FloatOps F]

/-! ### The buffers -/

abbrev xM : Memref sig .tc .vmem S1x1024x1024 .bf16 := Memref.whole cc0_stg0_0
abbrev wM : Memref sig .tc .vmem S1024x1024 .bf16 := Memref.whole cc0_stg1_0
abbrev r1M : Memref sig .tc .vmem S2x256x1024 .bf16 := Memref.whole cc0_scratch0
abbrev r2M : Memref sig .tc .vmem S2x128x1024 .bf16 := Memref.whole cc0_scratch1

/-! ### Blocks as sets -/

def wkey (i : S1024x1024.Idx) : Fin 16 := ⟨(i 0).val / 64, by have : (i 0).val < 1024 := (i 0).isLt; omega⟩
def r1key (i : S2x256x1024.Idx) : Fin 8 :=
  ⟨4 * (i 0).val + (i 1).val / 64, by have : (i 0).val < 2 := (i 0).isLt; have : (i 1).val < 256 := (i 1).isLt; omega⟩
def r2key (i : S2x128x1024.Idx) : Fin 4 :=
  ⟨2 * (i 0).val + (i 1).val / 64, by have : (i 0).val < 2 := (i 0).isLt; have : (i 1).val < 128 := (i 1).isLt; omega⟩

def wSet (n : Fin 16) : Finset S1024x1024.Idx := Finset.univ.filter fun i => wkey i = n
def r1Set (n : Fin 8) : Finset S2x256x1024.Idx := Finset.univ.filter fun i => r1key i = n
def r2Set (n : Fin 4) : Finset S2x128x1024.Idx := Finset.univ.filter fun i => r2key i = n
/-- Four blocks in a row: 256 rows. -/
def wSet4 (h : Fin 4) : Finset S1024x1024.Idx := Finset.univ.filter fun i => (wkey i).val / 4 = h.val

theorem mem_wSet {n : Fin 16} {i : S1024x1024.Idx} : i ∈ wSet n ↔ 64 * n.val ≤ (i 0).val ∧ (i 0).val < 64 * n.val + 64 := by
  unfold wSet; rw [Finset.mem_filter]
  constructor
  · rintro ⟨-, h⟩; have := congrArg Fin.val h; simp only [wkey] at this; omega
  · rintro ⟨h1, h2⟩; exact ⟨Finset.mem_univ _, Fin.ext (by simp only [wkey]; omega)⟩

theorem mem_wSet4 {n : Fin 4} {i : S1024x1024.Idx} : i ∈ wSet4 n ↔ 256 * n.val ≤ (i 0).val ∧ (i 0).val < 256 * n.val + 256 := by
  unfold wSet4; rw [Finset.mem_filter]
  simp only [wkey, Finset.mem_univ, true_and]
  omega

theorem mem_r1Set {n : Fin 8} {i : S2x256x1024.Idx} :
    i ∈ r1Set n ↔ (i 0).val = n.val / 4 ∧ 64 * (n.val % 4) ≤ (i 1).val ∧ (i 1).val < 64 * (n.val % 4) + 64 := by
  have h0 : (i 0).val < 2 := (i 0).isLt
  have h1 : (i 1).val < 256 := (i 1).isLt
  unfold r1Set; rw [Finset.mem_filter]
  constructor
  · rintro ⟨-, h⟩; have := congrArg Fin.val h; simp only [r1key] at this; omega
  · rintro ⟨h1, h2, h3⟩; exact ⟨Finset.mem_univ _, Fin.ext (by simp only [r1key]; omega)⟩

theorem mem_r2Set {n : Fin 4} {i : S2x128x1024.Idx} :
    i ∈ r2Set n ↔ (i 0).val = n.val / 2 ∧ 64 * (n.val % 2) ≤ (i 1).val ∧ (i 1).val < 64 * (n.val % 2) + 64 := by
  have h0 : (i 0).val < 2 := (i 0).isLt
  have h1 : (i 1).val < 128 := (i 1).isLt
  unfold r2Set; rw [Finset.mem_filter]
  constructor
  · rintro ⟨-, h⟩; have := congrArg Fin.val h; simp only [r2key] at this; omega
  · rintro ⟨h1, h2, h3⟩; exact ⟨Finset.mem_univ _, Fin.ext (by simp only [r2key]; omega)⟩

/-! ### The rectangles of the program -/

abbrev wRect (off : Fin 2 → ℕ) (inb : ∀ a, off a + S64x1024.size a ≤ S1024x1024.size a) : Rect S1024x1024 :=
  Rect.unit (s := S1024x1024) off S64x1024.size inb
abbrev w4Rect (off : Fin 2 → ℕ) (inb : ∀ a, off a + S256x1024.size a ≤ S1024x1024.size a) : Rect S1024x1024 :=
  Rect.unit (s := S1024x1024) off S256x1024.size inb
abbrev xRect (off : Fin 3 → ℕ) (inb : ∀ a, off a + S1x64x1024.size a ≤ S1x1024x1024.size a) : Rect S1x1024x1024 :=
  Rect.unit (s := S1x1024x1024) off S1x64x1024.size inb
abbrev x4Rect (off : Fin 3 → ℕ) (inb : ∀ a, off a + S1x256x1024.size a ≤ S1x1024x1024.size a) : Rect S1x1024x1024 :=
  Rect.unit (s := S1x1024x1024) off S1x256x1024.size inb
abbrev r1Rect (off : Fin 3 → ℕ) (inb : ∀ a, off a + S1x64x1024.size a ≤ S2x256x1024.size a) : Rect S2x256x1024 :=
  Rect.unit (s := S2x256x1024) off S1x64x1024.size inb
abbrev r2Rect (off : Fin 3 → ℕ) (inb : ∀ a, off a + S1x64x1024.size a ≤ S2x128x1024.size a) : Rect S2x128x1024 :=
  Rect.unit (s := S2x128x1024) off S1x64x1024.size inb

abbrev wSl (off : Fin 2 → ℕ) (inb : ∀ a, off a + S64x1024.size a ≤ S1024x1024.size a) : Memref sig .tc .vmem S64x1024 .bf16 :=
  wM.slice (wRect off inb) (fun _ => rfl)
abbrev r1Sl (off : Fin 3 → ℕ) (inb : ∀ a, off a + S1x64x1024.size a ≤ S2x256x1024.size a) : Memref sig .tc .vmem S64x1024 .bf16 :=
  (r1M.slice (r1Rect off inb) (fun _ => rfl)).squeeze S64x1024 squeezes_S1x64x1024_S64x1024
abbrev r2Sl (off : Fin 3 → ℕ) (inb : ∀ a, off a + S1x64x1024.size a ≤ S2x128x1024.size a) : Memref sig .tc .vmem S64x1024 .bf16 :=
  (r2M.slice (r2Rect off inb) (fun _ => rfl)).squeeze S64x1024 squeezes_S1x64x1024_S64x1024

variable {off : Fin 2 → ℕ} {off3 : Fin 3 → ℕ}

theorem wRect_set {n : Fin 16} (inb) (h : off = ![64 * n.val, 0]) : (wRect off inb).set = wSet n := by
  subst h; ext i; rw [Rect.mem_set_unit, mem_wSet]
  have h1 : (i 1).val < 1024 := (i 1).isLt
  constructor
  · intro h; exact h 0
  · intro h a; match a with
    | 0 => exact h
    | 1 => exact ⟨Nat.zero_le _, by show (i 1).val < 0 + 1024; omega⟩

theorem w4Rect_set {n : Fin 4} (inb) (h : off = ![256 * n.val, 0]) : (w4Rect off inb).set = wSet4 n := by
  subst h; ext i; rw [Rect.mem_set_unit, mem_wSet4]
  have h1 : (i 1).val < 1024 := (i 1).isLt
  constructor
  · intro h; exact h 0
  · intro h a; match a with
    | 0 => exact h
    | 1 => exact ⟨Nat.zero_le _, by show (i 1).val < 0 + 1024; omega⟩

theorem r1Rect_set {n : Fin 8} (inb) (h : off3 = ![n.val / 4, 64 * (n.val % 4), 0]) : (r1Rect off3 inb).set = r1Set n := by
  subst h; ext i; rw [Rect.mem_set_unit, mem_r1Set]
  have h1 : (i 2).val < 1024 := (i 2).isLt
  constructor
  · intro h; have := h 0; have h1 : n.val / 4 ≤ (i 0).val ∧ (i 0).val < n.val / 4 + 1 := h 0; exact ⟨by omega, h 1⟩
  · intro h a; match a with
    | 0 => exact ⟨h.1.ge, by show (i 0).val < n.val / 4 + 1; omega⟩
    | 1 => exact h.2
    | 2 => exact ⟨Nat.zero_le _, by show (i 2).val < 0 + 1024; omega⟩

theorem r2Rect_set {n : Fin 4} (inb) (h : off3 = ![n.val / 2, 64 * (n.val % 2), 0]) : (r2Rect off3 inb).set = r2Set n := by
  subst h; ext i; rw [Rect.mem_set_unit, mem_r2Set]
  have h1 : (i 2).val < 1024 := (i 2).isLt
  constructor
  · intro h; have := h 0; have h1 : n.val / 2 ≤ (i 0).val ∧ (i 0).val < n.val / 2 + 1 := h 0; exact ⟨by omega, h 1⟩
  · intro h a; match a with
    | 0 => exact ⟨h.1.ge, by show (i 0).val < n.val / 2 + 1; omega⟩
    | 1 => exact h.2
    | 2 => exact ⟨Nat.zero_le _, by show (i 2).val < 0 + 1024; omega⟩

theorem wSl_set {n : Fin 16} (inb) (h : off = ![64 * n.val, 0]) : (wSl off inb).view.set = wSet n :=
  (View.set_slice_whole cc0_stg1_0 (wRect off inb)).trans (wRect_set inb h)

/-- A view's set is not changed by reshaping the view. -/
theorem set_reshape {sp : Space} {s s' : Shape} {e : EltTy} (v : View sig .tc sp s e) (h : s'.numel = s.numel) :
    (v.reshape s' h).set = v.set := by
  ext i
  constructor
  · intro hi; obtain ⟨y, -, rfl⟩ := Finset.mem_map.mp hi
    exact Finset.mem_map.mpr ⟨Shape.reshapeEquiv h y, Finset.mem_univ _, rfl⟩
  · intro hi; obtain ⟨y, -, rfl⟩ := Finset.mem_map.mp hi
    refine Finset.mem_map.mpr ⟨(Shape.reshapeEquiv h).symm y, Finset.mem_univ _, ?_⟩
    show v.emb (Shape.reshapeEquiv h ((Shape.reshapeEquiv h).symm y)) = _
    rw [Equiv.apply_symm_apply]

theorem r1Sl_set {n : Fin 8} (inb) (h : off3 = ![n.val / 4, 64 * (n.val % 4), 0]) : (r1Sl off3 inb).view.set = r1Set n :=
  (set_reshape _ _).trans ((View.set_slice_whole cc0_scratch0 (r1Rect off3 inb)).trans (r1Rect_set inb h))
theorem r2Sl_set {n : Fin 4} (inb) (h : off3 = ![n.val / 2, 64 * (n.val % 2), 0]) : (r2Sl off3 inb).view.set = r2Set n :=
  (set_reshape _ _).trans ((View.set_slice_whole cc0_scratch1 (r2Rect off3 inb)).trans (r2Rect_set inb h))

/-! ### Where an index of a block lies in its buffer -/

/-- Row `a` as a row of the 1024-row buffer. -/
def rowF (a : ℕ) : Fin 1024 := ⟨a % 1024, Nat.mod_lt _ (by decide)⟩

theorem wemb {n : Fin 16} (inb) (h : off = ![64 * n.val, 0]) (y : S64x1024.Idx) :
    (wSl off inb).view.emb y = ix2 (rowF (64 * n.val + (y 0).val)) (y 1 : Fin 1024) := by
  subst h
  have h0 : (y 0).val < 64 := (y 0).isLt
  funext a; apply Fin.ext
  refine (ValueKit.view_emb_slice_whole_unit_val cc0_stg1_0 _ _ inb y a).trans ?_
  match a with
  | 0 => show 64 * n.val + (y 0).val = (64 * n.val + (y 0).val) % 1024; omega
  | 1 => show 0 + (y 1).val = (y 1).val; omega

theorem w4emb {n : Fin 4} (inb) (h : off = ![256 * n.val, 0]) (y : S256x1024.Idx) :
    (wM.access (w4Rect off inb)).emb y = ix2 (rowF (256 * n.val + (y 0).val)) (y 1 : Fin 1024) := by
  subst h
  have h0 : (y 0).val < 256 := (y 0).isLt
  funext a; apply Fin.ext
  refine (ValueKit.view_emb_slice_whole_unit_val cc0_stg1_0 _ _ inb y a).trans ?_
  match a with
  | 0 => show 256 * n.val + (y 0).val = (256 * n.val + (y 0).val) % 1024; omega
  | 1 => show 0 + (y 1).val = (y 1).val; omega

theorem xemb {n : Fin 16} (inb) (h : off3 = ![0, 64 * n.val, 0]) (y : S64x1024.Idx) :
    (xM.access (xRect off3 inb)).emb (ix3 (0 : Fin 1) (y 0 : Fin 64) (y 1 : Fin 1024))
      = ix3 (0 : Fin 1) (rowF (64 * n.val + (y 0).val)) (y 1 : Fin 1024) := by
  subst h
  have h0 : (y 0).val < 64 := (y 0).isLt
  funext a; apply Fin.ext
  refine (ValueKit.view_emb_slice_whole_unit_val cc0_stg0_0 _ _ inb _ a).trans ?_
  match a with
  | 0 => rfl
  | 1 => show 64 * n.val + (y 0).val = (64 * n.val + (y 0).val) % 1024; omega
  | 2 => show 0 + (y 1).val = (y 1).val; omega

theorem x4emb {n : Fin 4} (inb) (h : off3 = ![0, 256 * n.val, 0]) (y : S256x1024.Idx) :
    (xM.access (x4Rect off3 inb)).emb (ix3 (0 : Fin 1) (y 0 : Fin 256) (y 1 : Fin 1024))
      = ix3 (0 : Fin 1) (rowF (256 * n.val + (y 0).val)) (y 1 : Fin 1024) := by
  subst h
  have h0 : (y 0).val < 256 := (y 0).isLt
  funext a; apply Fin.ext
  refine (ValueKit.view_emb_slice_whole_unit_val cc0_stg0_0 _ _ inb _ a).trans ?_
  match a with
  | 0 => rfl
  | 1 => show 256 * n.val + (y 0).val = (256 * n.val + (y 0).val) % 1024; omega
  | 2 => show 0 + (y 1).val = (y 1).val; omega

/-- Row `a` of slab `h` of the two receive buffers. -/
def r1Ix (h a : ℕ) (l : Fin 1024) : S2x256x1024.Idx :=
  ix3 (⟨h % 2, Nat.mod_lt _ (by decide)⟩ : Fin 2) (⟨a % 256, Nat.mod_lt _ (by decide)⟩ : Fin 256) l
def r2Ix (h a : ℕ) (l : Fin 1024) : S2x128x1024.Idx :=
  ix3 (⟨h % 2, Nat.mod_lt _ (by decide)⟩ : Fin 2) (⟨a % 128, Nat.mod_lt _ (by decide)⟩ : Fin 128) l

theorem r1emb {n : Fin 8} (inb) (h : off3 = ![n.val / 4, 64 * (n.val % 4), 0]) (y : S64x1024.Idx) :
    (r1M.access (r1Rect off3 inb)).emb (ix3 (0 : Fin 1) (y 0 : Fin 64) (y 1 : Fin 1024))
      = r1Ix (n.val / 4) (64 * (n.val % 4) + (y 0).val) (y 1) := by
  subst h
  have h0 : (y 0).val < 64 := (y 0).isLt
  have h1 := n.isLt
  funext a; apply Fin.ext
  refine (ValueKit.view_emb_slice_whole_unit_val cc0_scratch0 _ _ inb _ a).trans ?_
  match a with
  | 0 => show n.val / 4 + 0 = n.val / 4 % 2; omega
  | 1 => show 64 * (n.val % 4) + (y 0).val = (64 * (n.val % 4) + (y 0).val) % 256; omega
  | 2 => show 0 + (y 1).val = (y 1).val; omega

theorem r2emb {n : Fin 4} (inb) (h : off3 = ![n.val / 2, 64 * (n.val % 2), 0]) (y : S64x1024.Idx) :
    (r2M.access (r2Rect off3 inb)).emb (ix3 (0 : Fin 1) (y 0 : Fin 64) (y 1 : Fin 1024))
      = r2Ix (n.val / 2) (64 * (n.val % 2) + (y 0).val) (y 1) := by
  subst h
  have h0 : (y 0).val < 64 := (y 0).isLt
  have h1 := n.isLt
  funext a; apply Fin.ext
  refine (ValueKit.view_emb_slice_whole_unit_val cc0_scratch1 _ _ inb _ a).trans ?_
  match a with
  | 0 => show n.val / 2 + 0 = n.val / 2 % 2; omega
  | 1 => show 64 * (n.val % 2) + (y 0).val = (64 * (n.val % 2) + (y 0).val) % 128; omega
  | 2 => show 0 + (y 1).val = (y 1).val; omega

theorem squeeze_ix (h : S64x1024.numel = S1x64x1024.numel) (y : S64x1024.Idx) :
    Shape.reshapeEquiv h y = (ix3 (0 : Fin 1) (y 0 : Fin 64) (y 1 : Fin 1024) : S1x64x1024.Idx) := by
  conv_lhs => rw [eq_ix2 (n0 := 64) (n1 := 1024) y]
  exact reshapeEquiv_ix2_1ab (a := 64) (b := 1024) h (y 0) (y 1)

theorem squeeze4_ix (h : S256x1024.numel = S1x256x1024.numel) (y : S256x1024.Idx) :
    Shape.reshapeEquiv h y = (ix3 (0 : Fin 1) (y 0 : Fin 256) (y 1 : Fin 1024) : S1x256x1024.Idx) := by
  conv_lhs => rw [eq_ix2 (n0 := 256) (n1 := 1024) y]
  exact reshapeEquiv_ix2_1ab (a := 256) (b := 1024) h (y 0) (y 1)

theorem r1Slemb {n : Fin 8} (inb) (h : off3 = ![n.val / 4, 64 * (n.val % 4), 0]) (y : S64x1024.Idx) :
    (r1Sl off3 inb).view.emb y = r1Ix (n.val / 4) (64 * (n.val % 4) + (y 0).val) (y 1) := by
  rw [← r1emb inb h y, ← squeeze_ix squeezes_S1x64x1024_S64x1024.numel_eq y]; rfl

theorem r2Slemb {n : Fin 4} (inb) (h : off3 = ![n.val / 2, 64 * (n.val % 2), 0]) (y : S64x1024.Idx) :
    (r2Sl off3 inb).view.emb y = r2Ix (n.val / 2) (64 * (n.val % 2) + (y 0).val) (y 1) := by
  rw [← r2emb inb h y, ← squeeze_ix squeezes_S1x64x1024_S64x1024.numel_eq y]; rfl

/-! ### What is read and written, element by element -/

abbrev XC (F : FTy → Type) := (cc0_stg0_0 : Ref sig .tc).ty.Contents (Elt F)
abbrev WC (F : FTy → Type) := (cc0_stg1_0 : Ref sig .tc).ty.Contents (Elt F)
abbrev R1C (F : FTy → Type) := (cc0_scratch0 : Ref sig .tc).ty.Contents (Elt F)
abbrev R2C (F : FTy → Type) := (cc0_scratch1 : Ref sig .tc).ty.Contents (Elt F)

/-- Element (row, column) of a device's own input. -/
def xAt (X : XC F) (r : ℕ) (l : Fin 1024) : F .bf16 := X (ix3 (0 : Fin 1) (rowF r) l)
def wAt (W : WC F) (r : ℕ) (l : Fin 1024) : F .bf16 := W (ix2 (rowF r) l)

theorem read_x {n : Fin 16} (inb) (h : off3 = ![0, 64 * n.val, 0]) (X : XC F) (hc) (y : S64x1024.Idx) :
    shapeCast S64x1024 (xM.view.readAt (Elt F) (xRect off3 inb).toLoadRect X) hc y = xAt X (64 * n.val + (y 0).val) (y 1) := by
  show X ((xM.access (xRect off3 inb)).emb (Shape.reshapeEquiv _ y)) = _
  rw [squeeze_ix, xemb inb h y]; rfl

theorem read_x4 {n : Fin 4} (inb) (h : off3 = ![0, 256 * n.val, 0]) (X : XC F) (hc) (y : S256x1024.Idx) :
    shapeCast S256x1024 (xM.view.readAt (Elt F) (x4Rect off3 inb).toLoadRect X) hc y = xAt X (256 * n.val + (y 0).val) (y 1) := by
  show X ((xM.access (x4Rect off3 inb)).emb (Shape.reshapeEquiv _ y)) = _
  rw [squeeze4_ix, x4emb inb h y]; rfl

theorem read_r1 {n : Fin 8} (inb) (h : off3 = ![n.val / 4, 64 * (n.val % 4), 0]) (R : R1C F) (hc) (y : S64x1024.Idx) :
    shapeCast S64x1024 (r1M.view.readAt (Elt F) (r1Rect off3 inb).toLoadRect R) hc y
      = R (r1Ix (n.val / 4) (64 * (n.val % 4) + (y 0).val) (y 1)) := by
  show R ((r1M.access (r1Rect off3 inb)).emb (Shape.reshapeEquiv _ y)) = _
  rw [squeeze_ix, r1emb inb h y]

theorem read_r2 {n : Fin 4} (inb) (h : off3 = ![n.val / 2, 64 * (n.val % 2), 0]) (R : R2C F) (hc) (y : S64x1024.Idx) :
    shapeCast S64x1024 (r2M.view.readAt (Elt F) (r2Rect off3 inb).toLoadRect R) hc y
      = R (r2Ix (n.val / 2) (64 * (n.val % 2) + (y 0).val) (y 1)) := by
  show R ((r2M.access (r2Rect off3 inb)).emb (Shape.reshapeEquiv _ y)) = _
  rw [squeeze_ix, r2emb inb h y]

theorem read_w {n : Fin 16} (inb) (h : off = ![64 * n.val, 0]) (W : WC F) (hc) (y : S64x1024.Idx) :
    shapeCast S64x1024 (wM.view.readAt (Elt F) (wRect off inb).toLoadRect W) hc y = wAt W (64 * n.val + (y 0).val) (y 1) := by
  show W ((wSl off inb).view.emb (Shape.reshapeEquiv _ y)) = _
  rw [Shape.reshapeEquiv_self, wemb inb h y]; rfl

/-- A store over block `n` leaves, at row `r` of the block, what the payload holds there. -/
theorem write_w {n : Fin 16} (inb) (h : off = ![64 * n.val, 0]) (f : WC F) (v : S64x1024.Idx → Elt F .bf16) (g : WC F)
    (hv : ∀ y : S64x1024.Idx, v y = wAt g (64 * n.val + (y 0).val) (y 1)) :
    ∀ i ∈ wSet n, (wM.access (wRect off inb)).write (Elt F) f v Finset.univ i = g i := by
  intro i hi
  rw [← wSl_set inb h] at hi
  obtain ⟨y, rfl⟩ := View.exists_emb_of_mem_set _ hi
  refine (View.write_emb_of_mem (v := (wSl off inb).view) f v (Finset.mem_univ y)).trans ?_
  show v y = _
  rw [hv y, wemb inb h y]; rfl

theorem write_w4 {n : Fin 4} (inb) (h : off = ![256 * n.val, 0]) (f : WC F) (v : S256x1024.Idx → Elt F .bf16) (g : WC F)
    (hv : ∀ y : S256x1024.Idx, v y = wAt g (256 * n.val + (y 0).val) (y 1)) :
    ∀ i ∈ wSet4 n, (wM.access (w4Rect off inb)).write (Elt F) f v Finset.univ i = g i := by
  intro i hi
  rw [← w4Rect_set inb h, ← View.set_slice_whole cc0_stg1_0] at hi
  obtain ⟨y, e⟩ := View.exists_emb_of_mem_set _ hi
  subst e
  refine (View.write_emb_of_mem (v := wM.access (w4Rect off inb)) f v (Finset.mem_univ y)).trans ?_
  show v y = _
  rw [hv y]
  exact (congrArg g (w4emb inb h y)).symm

/-- A copy of block `n` of the output onto the same block. -/
theorem land_w {n : Fin 16} (inb) (h : off = ![64 * n.val, 0]) (f W : WC F) :
    ∀ i ∈ wSet n, (wSl off inb).view.write (Elt F) f ((wSl off inb).view.read (Elt F) W) Finset.univ i = W i :=
  write_w inb h f _ W (fun y => by show W ((wSl off inb).view.emb y) = _; rw [wemb inb h y]; rfl)

/-- A copy of block `n` of the output into block `n'` of the first receive buffer. -/
theorem land_r1 {n : Fin 16} {n' : Fin 8} (inb inb') (h : off = ![64 * n.val, 0]) (h' : off3 = ![n'.val / 4, 64 * (n'.val % 4), 0])
    (f : R1C F) (W : WC F) (g : R1C F)
    (hg : ∀ y : S64x1024.Idx, wAt W (64 * n.val + (y 0).val) (y 1) = g (r1Ix (n'.val / 4) (64 * (n'.val % 4) + (y 0).val) (y 1))) :
    ∀ i ∈ r1Set n', (r1Sl off3 inb').view.write (Elt F) f ((wSl off inb).view.read (Elt F) W) Finset.univ i = g i := by
  intro i hi
  rw [← r1Sl_set inb' h'] at hi
  obtain ⟨y, rfl⟩ := View.exists_emb_of_mem_set _ hi
  refine (View.write_emb_of_mem (v := (r1Sl off3 inb').view) f _ (Finset.mem_univ y)).trans ?_
  show W ((wSl off inb).view.emb y) = _
  rw [wemb inb h y, r1Slemb inb' h' y]; exact hg y

theorem land_r2 {n : Fin 16} {n' : Fin 4} (inb inb') (h : off = ![64 * n.val, 0]) (h' : off3 = ![n'.val / 2, 64 * (n'.val % 2), 0])
    (f : R2C F) (W : WC F) (g : R2C F)
    (hg : ∀ y : S64x1024.Idx, wAt W (64 * n.val + (y 0).val) (y 1) = g (r2Ix (n'.val / 2) (64 * (n'.val % 2) + (y 0).val) (y 1))) :
    ∀ i ∈ r2Set n', (r2Sl off3 inb').view.write (Elt F) f ((wSl off inb).view.read (Elt F) W) Finset.univ i = g i := by
  intro i hi
  rw [← r2Sl_set inb' h'] at hi
  obtain ⟨y, rfl⟩ := View.exists_emb_of_mem_set _ hi
  refine (View.write_emb_of_mem (v := (r2Sl off3 inb').view) f _ (Finset.mem_univ y)).trans ?_
  show W ((wSl off inb).view.emb y) = _
  rw [wemb inb h y, r2Slemb inb' h' y]; exact hg y

end Cert.KernelIdeal.Ar

end
-- ==== Proof.I.Sched.lean ====
/-
  The protocol of the all-reduce: the contents every block has when it changes hands, the schedule of
  the semaphores (who pays which, and with what), what every device owes, and the order of the waits.
-/
module

public import proofs.«01_k».proof.Proof.I.Views
public import proofs.«01_k».proof.Proof.Gen.KernelIdeal.Launch
public import Idealize.ShloMosaic.Lib.Pipeline.Launch

@[expose] public section

noncomputable section

namespace Cert.KernelIdeal.Ar

open Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ### Contents -/

/-- Device `c`'s input. -/
def xstg (c : Dev nD) : XC F :=
  (win0_0.blk (0 : Fin 1)).view.read (Elt F) ((s₀ m ρ).mem ((c : Thread nD τ).loc main_arg0))

/-- The block a row lies in. -/
def blk (r : ℕ) : Fin 16 := ⟨r / 64 % 16, Nat.mod_lt _ (by decide)⟩

/-- Row `r`, column `l`: device `c`'s input; after the first exchange; finished. -/
def xv (c : Dev nD) (r : ℕ) (l : Fin 1024) : F .bf16 := xAt (xstg m ρ c) r l
def w1v (c : Dev nD) (r : ℕ) (l : Fin 1024) : F .bf16 :=
  FloatOps.addf (xv m ρ c r l) (xv m ρ (p1 (blk r) c) r l)
def finv (r : ℕ) (l : Fin 1024) : F .bf16 :=
  FloatOps.addf (w1v m ρ (own (blk r)) r l) (w1v m ρ (p2 (blk r) (own (blk r))) r l)

/-- The same as contents of the output buffer. -/
def X1 (c : Dev nD) : WC F := fun i => xv m ρ c (i 0).val (i 1)
def W1 (c : Dev nD) : WC F := fun i => w1v m ρ c (i 0).val (i 1)
def FIN : WC F := fun i => finv m ρ (i 0).val (i 1)

/-- What the two receive buffers of device `c` hold once filled. -/
def R1 (c : Dev nD) : R1C F := fun i =>
  if (i 0).val = 0 then xv m ρ (x1 c) (64 * hA c + (i 1).val) (i 2) else xv m ρ (x3 c) (64 * hB c + (i 1).val) (i 2)
def R2 (c : Dev nD) : R2C F := fun i =>
  if (i 0).val = 0 then w1v m ρ (x3 c) (64 * qA c + (i 1).val) (i 2) else w1v m ρ (x1 c) (64 * qB c + (i 1).val) (i 2)

/-! ### The cells -/

/-- The barrier semaphore, and the send and receive semaphores of message `k`. -/
abbrev barS : Sem sig := (SemArray.scalar (sig.barrier 0 rfl) : Sems sig S_).sem
def sSem (k : Fin 24) : DmaSem sig := ⟨2 + k.val, by have := k.isLt; show 2 + k.val < 50; omega⟩
def rSem (k : Fin 24) : DmaSem sig := ⟨26 + k.val, by have := k.isLt; show 26 + k.val < 50; omega⟩

abbrev barCell (c : Dev nD) : GSem nD τ sig := ((c : Thread nD τ), .reg barS)
abbrev sendCell (k : Fin 24) (c : Dev nD) : GSem nD τ sig := ((c : Thread nD τ), .dma (sSem k))
abbrev recvCell (k : Fin 24) (c : Dev nD) : GSem nD τ sig := ((c : Thread nD τ), .dma (rSem k))

abbrev KI : Type := Unit ⊕ (Fin 24 ⊕ Fin 24)
/-- Every cell of a device: its barrier, its 24 send cells, its 24 receive cells. -/
def csem : KI → SemLoc sig
  | .inl _ => .reg barS
  | .inr (.inl k) => .dma (sSem k)
  | .inr (.inr k) => .dma (rSem k)
abbrev kcell (ck : Dev nD × KI) : GSem nD τ sig := ((ck.1 : Thread nD τ), csem ck.2)

/-- What a semaphore is in the protocol. -/
def role (s : SemLoc sig) : Option KI :=
  match s with
  | .reg b => if b = barS then some (.inl ()) else none
  | .dma q =>
    if h : 2 ≤ q.val ∧ q.val < 26 then some (.inr (.inl ⟨q.val - 2, by omega⟩))
    else if h : 26 ≤ q.val ∧ q.val < 50 then some (.inr (.inr ⟨q.val - 26, by omega⟩))
    else none

theorem role_csem : ∀ j : KI, role (csem j) = some j := by decide
theorem role_bar : role (.reg barS) = some (.inl ()) := role_csem (.inl ())
theorem role_send (k : Fin 24) : role (.dma (sSem k)) = some (.inr (.inl k)) := role_csem (.inr (.inl k))
theorem role_recv (k : Fin 24) : role (.dma (rSem k)) = some (.inr (.inr k)) := role_csem (.inr (.inr k))

theorem csem_injective : Function.Injective csem := fun a b h =>
  Option.some.inj ((role_csem a).symm.trans ((congrArg role h).trans (role_csem b)))

theorem kcell_injective : Function.Injective (kcell : Dev nD × KI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The credit of one block's copy. -/
abbrev N : ℕ := (wSl (![0, 0]) (by decide)).view.dmaCredit
theorem N_pos : 0 < N := View.dmaCredit_pos _ (by decide)

/-! ### What is held: blocks -/

/-- Blocks of device `c`'s output buffer, and of its two receive buffers. -/
def wPts (c : Dev nD) (n : Fin 16) (q : PosShare TreeShare) (f : WC F) : sProp 𝕄 := wM.view.loc (c : Thread nD τ) ↦[wSet n]{q} f
def r1Pts (c : Dev nD) (n : Fin 8) (f : R1C F) : sProp 𝕄 := r1M.view.loc (c : Thread nD τ) ↦[r1Set n]{fullShare} f
def r2Pts (c : Dev nD) (n : Fin 4) (f : R2C F) : sProp 𝕄 := r2M.view.loc (c : Thread nD τ) ↦[r2Set n]{fullShare} f

instance wPts_storable (c : Dev nD) (n q f) : BI.Storable (upEmb : UEmb _ 𝕄) (wPts (F := F) c n q f) := by unfold wPts; infer_instance
instance r1Pts_storable (c : Dev nD) (n f) : BI.Storable (upEmb : UEmb _ 𝕄) (r1Pts (F := F) c n f) := by unfold r1Pts; infer_instance
instance r2Pts_storable (c : Dev nD) (n f) : BI.Storable (upEmb : UEmb _ 𝕄) (r2Pts (F := F) c n f) := by unfold r2Pts; infer_instance

/-- The block of device `c`'s receive buffers that message `k < 12` fills: with any contents, and filled. -/
def rAny (k : Fin 24) (c : Dev nD) : sProp 𝕄 :=
  if k.val < 8 then iprop(∃ f, r1Pts c (r1dst k (tgt k c)) f) else iprop(∃ f, r2Pts c (r2dst k) f)
def rFull (k : Fin 24) (c : Dev nD) : sProp 𝕄 :=
  if k.val < 8 then r1Pts c (r1dst k (tgt k c)) (R1 m ρ c) else r2Pts c (r2dst k) (R2 m ρ c)

instance rAny_storable (k c) : BI.Storable (upEmb : UEmb _ 𝕄) (rAny (F := F) k c) := by unfold rAny; split <;> infer_instance
instance rFull_storable (k c) : BI.Storable (upEmb : UEmb _ 𝕄) (rFull (F := F) m ρ k c) := by unfold rFull; split <;> infer_instance

/-- The block of the output buffer named by message `k`, with any contents, and finished. -/
def wAny (k : Fin 24) (c : Dev nD) : sProp 𝕄 := iprop(∃ f, wPts c (wsrc k c) fullShare f)
def wFin (k : Fin 24) (q : PosShare TreeShare) (c : Dev nD) : sProp 𝕄 := wPts c (wsrc k c) q (FIN m ρ)
instance wAny_storable (k c) : BI.Storable (upEmb : UEmb _ 𝕄) (wAny (F := F) k c) := by unfold wAny; infer_instance
instance wFin_storable (k q c) : BI.Storable (upEmb : UEmb _ 𝕄) (wFin (F := F) m ρ k q c) := by unfold wFin; infer_instance

/-! ### The schedule -/

/-- What the barrier's signal brings device `c`: the receive blocks of the partner (`x1 c` for `false`, `x3 c` for
    `true`) that `c` will fill. -/
def barPay (c : Dev nD) (d : Bool) : sProp 𝕄 :=
  if d then iprop(rAny 4 (x3 c) ∗ rAny 5 (x3 c) ∗ rAny 6 (x3 c) ∗ rAny 7 (x3 c) ∗ rAny 8 (x3 c) ∗ rAny 9 (x3 c))
  else iprop(rAny 0 (x1 c) ∗ rAny 1 (x1 c) ∗ rAny 2 (x1 c) ∗ rAny 3 (x1 c) ∗ rAny 10 (x1 c) ∗ rAny 11 (x1 c))

/-- The share of a finished block that message `k` lends while it travels. -/
def qShare (k : Fin 24) : PosShare TreeShare := if k.val < 16 then fullShare.left else if k.val % 4 < 2 then fullShare.right else fullShare

/-- What comes back with the send semaphore of message `k`. -/
def sendPay (k : Fin 24) (c : Dev nD) : sProp 𝕄 := if k.val < 12 then iprop(emp) else wFin m ρ (srcB k) (qShare k) c
/-- What comes with the receive semaphore of message `k`: the filled block and the sender's source block, or the
    finished block. -/
def recvPay (k : Fin 24) (c : Dev nD) : sProp 𝕄 :=
  if k.val < 12 then iprop(rFull m ρ k c ∗ wAny k (tgt k c)) else wFin m ρ (pre k) fullShare c

/-- One round: a barrier cell has two duties of one unit, every other cell the duty `false` of one block's credit. -/
def ringRd : Rounds.Schedule (GSem nD τ sig) Bool 𝕄 where
  duties g r := if r = 0 ∧ g.1.2 = .tc then (match role g.2 with | some (.inl _) => Finset.univ | some (.inr _) => {false} | none => ∅) else ∅
  unitless _ := False
  amount g _ _ := match role g.2 with | some (.inl _) => 1 | _ => N
  payload g _ d :=
    match role g.2 with
    | some (.inl _) => barPay g.1.1 d
    | some (.inr (.inl k)) => sendPay m ρ k g.1.1
    | some (.inr (.inr k)) => recvPay m ρ k g.1.1
    | none => iprop(emp)
  amount_pos g _ _ _ := by
    split
    · exact Nat.one_pos
    · exact N_pos

instance ringRd_payload_storable (g : GSem nD τ sig) (r : ℕ) (d : Bool) :
    BI.Storable (upEmb : UEmb _ 𝕄) ((ringRd (F := F) m ρ).payload g r d) := by
  dsimp only [ringRd]
  unfold barPay recvPay sendPay
  (repeat' split) <;> infer_instance

section Sched
variable (c : Dev nD) (k : Fin 24)

theorem duties_bar : (ringRd (F := F) m ρ).duties (barCell c) 0 = Finset.univ := by
  dsimp only [ringRd]; rw [if_pos ⟨rfl, rfl⟩, role_bar]
theorem duties_send : (ringRd (F := F) m ρ).duties (sendCell k c) 0 = {false} := by
  dsimp only [ringRd]; rw [if_pos ⟨rfl, rfl⟩, role_send]
theorem duties_recv : (ringRd (F := F) m ρ).duties (recvCell k c) 0 = {false} := by
  dsimp only [ringRd]; rw [if_pos ⟨rfl, rfl⟩, role_recv]
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := by dsimp only [ringRd]; rw [role_bar]
theorem amount_send (d : Bool) : (ringRd (F := F) m ρ).amount (sendCell k c) 0 d = N := by dsimp only [ringRd]; rw [role_send]
theorem amount_recv (d : Bool) : (ringRd (F := F) m ρ).amount (recvCell k c) 0 d = N := by dsimp only [ringRd]; rw [role_recv]

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd (F := F) m ρ).expect (sendCell k c) 0 = N := by
  unfold Schedule.expect Schedule.amountOf; rw [duties_send, Finset.sum_singleton, amount_send]
theorem expect_recv : (ringRd (F := F) m ρ).expect (recvCell k c) 0 = N := by
  unfold Schedule.expect Schedule.amountOf; rw [duties_recv, Finset.sum_singleton, amount_recv]

theorem payload_bar (d : Bool) : (ringRd (F := F) m ρ).payload (barCell c) 0 d = barPay c d := by dsimp only [ringRd]; rw [role_bar]
theorem payload_send (d : Bool) : (ringRd (F := F) m ρ).payload (sendCell k c) 0 d = sendPay m ρ k c := by
  dsimp only [ringRd]; rw [role_send]
theorem payload_recv (d : Bool) : (ringRd (F := F) m ρ).payload (recvCell k c) 0 d = recvPay m ρ k c := by
  dsimp only [ringRd]; rw [role_recv]

theorem rest_bar : bigSep ((ringRd (F := F) m ρ).duties (barCell c) 0 \ ∅) (fun d => (ringRd (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((ringRd (F := F) m ρ).duties (sendCell k c) 0 \ ∅) (fun d => (ringRd (F := F) m ρ).payload (sendCell k c) 0 d) = sendPay m ρ k c := by
  rw [Finset.sdiff_empty, duties_send, bigSep_singleton, payload_send]
theorem rest_recv : bigSep ((ringRd (F := F) m ρ).duties (recvCell k c) 0 \ ∅) (fun d => (ringRd (F := F) m ρ).payload (recvCell k c) 0 d) = recvPay m ρ k c := by
  rw [Finset.sdiff_empty, duties_recv, bigSep_singleton, payload_recv]

end Sched

/-! ### What each device owes, and the levels -/

/-- After `n` of its sends, device `c` still owes the receive cells of the messages not sent. -/
def owe (c : Dev nD) (n : ℕ) : CellTallies nD τ sig Unit := ∑ k ∈ unsent n, tallyAt (recvCell k (tgt k c)) () N
/-- At launch it owes the two barrier units as well. -/
def O₁ (c : Dev nD) : CellTallies nD τ sig Unit := owe c 0 + tallyAt (barCell (x3 c)) () 1
def O₀ (c : Dev nD) : CellTallies nD τ sig Unit := O₁ c + tallyAt (barCell (x1 c)) () 1

theorem owe_step (c : Dev nD) (k : Fin 24) : owe c (pos k) = owe c (pos k + 1) + tallyAt (recvCell k (tgt k c)) () N := by
  unfold owe
  rw [(unsent_step k).1, Finset.sum_insert (unsent_step k).2, add_comm]
theorem owe_last (c : Dev nD) : owe c 24 = 0 := by unfold owe; rw [unsent_last, Finset.sum_empty]

def L (g : GSem nD τ sig) : Finset Unit := if g.1.2 = .tc then {()} else ∅
/-- Staging and send cells at 0, the barrier at 1, receive cells above. -/
def lv (g : GSem nD τ sig) (_ : Unit) : ℕ :=
  match role g.2 with | some (.inl _) => 1 | some (.inr (.inr k)) => rlev k | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [role_bar]
theorem lv_recv (k : Fin 24) (c : Dev nD) (u : Unit) : lv (recvCell k c) u = rlev k := by unfold lv; rw [role_recv]
theorem lv_send (k : Fin 24) (c : Dev nD) (u : Unit) : lv (sendCell k c) u = 0 := by unfold lv; rw [role_send]

theorem owe_pos {c : Dev nD} {n : ℕ} {g : GSem nD τ sig} {u : Unit} (h : 0 < owe c n g u) :
    ∃ k ∈ unsent n, g = recvCell k (tgt k c) := by
  by_contra hn
  push Not at hn
  refine absurd h (Nat.not_lt.mpr (le_of_eq ?_))
  unfold owe
  rw [Finset.sum_apply, Finsupp.finset_sum_apply]
  refine Finset.sum_eq_zero fun k hk => ?_
  rw [tallyAt_apply, if_neg fun h' => hn k hk h'.1]

theorem tally_pos (A : CellTallies nD τ sig Unit) (g₁ g₂ g : GSem nD τ sig) (u : Unit)
    (h : 0 < (A + tallyAt g₁ () 1 + tallyAt g₂ () 1 : CellTallies nD τ sig Unit) g u) : 0 < A g u ∨ g = g₁ ∨ g = g₂ := by
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  exact hn.1 h

theorem O₀_pos {c : Dev nD} {g : GSem nD τ sig} {u : Unit} (h : 0 < O₀ c g u) :
    (∃ k, g = recvCell k (tgt k c)) ∨ g = barCell (x3 c) ∨ g = barCell (x1 c) := by
  rcases tally_pos (owe c 0) _ _ g u h with h | h
  · obtain ⟨k, -, hk⟩ := owe_pos h
    exact .inl ⟨k, hk⟩
  · exact .inr h

theorem rlev_pos (k : Fin 24) : 1 < rlev k := by revert k; decide

/-- A wait on a cell below everything still owed after `n` sends. -/
theorem mayWait_owe (c : Dev nD) (n : ℕ) (sm : SemLoc sig) (hlev : ∀ k ∈ unsent n, lv ((c : Thread nD τ), sm) () < rlev k) :
    (levAts L lv : sProp 𝕄) ⊢ MayWait (c : Thread nD τ) sm () (owe c n) :=
  MayOwe.of_cut (L := L) (lev := lv) (lv ((c : Thread nD τ), sm) ())
    (fun p hp => by rw [Finset.mem_singleton.mp hp, L_tc]; exact Finset.mem_singleton_self _)
    (fun g u hg => by obtain ⟨k, -, rfl⟩ := owe_pos hg; rw [L_tc]; exact Finset.mem_singleton_self _)
    (fun p hp => by rw [Finset.mem_singleton.mp hp])
    (fun g u hg => by obtain ⟨k, hk, rfl⟩ := owe_pos hg; rw [lv_recv]; exact hlev k hk)

theorem mayWait_bar (c : Dev nD) : (levAts L lv : sProp 𝕄) ⊢ MayWait (c : Thread nD τ) (.reg barS) () (owe c 0) :=
  mayWait_owe c 0 _ fun k _ => by rw [lv_bar]; exact rlev_pos k
theorem mayWait_send (c : Dev nD) (n : ℕ) (k : Fin 24) : (levAts L lv : sProp 𝕄) ⊢ MayWait (c : Thread nD τ) (.dma (sSem k)) () (owe c n) :=
  mayWait_owe c n _ fun k' _ => by rw [lv_send]; exact (Nat.zero_lt_one).trans (rlev_pos k')
theorem mayWait_recv (c : Dev nD) (n : ℕ) (k : Fin 24) (h : ∀ k' ∈ unsent n, rlev k < rlev k') :
    (levAts L lv : sProp 𝕄) ⊢ MayWait (c : Thread nD τ) (.dma (rSem k)) () (owe c n) :=
  mayWait_owe c n _ fun k' hk => by rw [lv_recv]; exact h k' hk

/-- The waits of the staging copies: nothing owed lies at their level. -/
theorem mayWait_stage (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp, hq])
      (fun g u hg => by
        rcases O₀_pos hg with ⟨k, rfl⟩ | rfl | rfl
        · rw [lv_recv]; exact (Nat.zero_lt_one).trans (rlev_pos k)
        · rw [lv_bar]; exact Nat.zero_lt_one
        · rw [lv_bar]; exact Nat.zero_lt_one)
  · rw [MayWait_zero]; iintro -; iempintro

end Cert.KernelIdeal.Ar

end
-- ==== Proof.I.Steps.lean ====
/-
  What one operation of the kernel does to what its device holds: a load, a store, a signal, a send, a wait.
  Every rule has the same shape: the resources the operation takes, then the continuation under the
  resources it gives back, then the program with the operation in front.
-/
module

public import proofs.«01_k».proof.Proof.I.Sched
public import proofs.«01_k».proof.Proof.Gen.KernelIdeal.Skeleton

@[expose] public section

noncomputable section

namespace Cert.KernelIdeal.Ar

open Cert.KernelIdeal.Facts₀
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)
variable (K : Dev nD × KI → ℕ)

/-- The rest of a device's program, run from here to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ### What everybody knows, and what one message needs -/

/-- Every cell's invariant, and that its first round has begun. -/
def records : sProp 𝕄 :=
  iprop(bigSep Finset.univ (fun ck : Dev nD × KI => cellInv ER (ringRd m ρ) (K ck) (kcell ck))
    ∗ bigSep Finset.univ (fun ck : Dev nD × KI => reached ER (kcell ck) 0))
instance records_persistent : BI.Persistent (records m ρ K) := by unfold records; infer_instance

/-- The records and the levels. -/
def Ctx : sProp 𝕄 := iprop(records m ρ K ∗ levAts L lv)
instance ctx_persistent : BI.Persistent (Ctx m ρ K) := by unfold Ctx; infer_instance

theorem ctx_levs : Ctx m ρ K ⊢ levAts L lv := by unfold Ctx; iintro ⟨-, H⟩; iexact H
theorem at_ck (ck : Dev nD × KI) (Φ : Dev nD × KI → sProp 𝕄) : (bigSep Finset.univ Φ : sProp 𝕄) ⊢ Φ ck :=
  bigSep_elim (Finset.mem_univ ck)
theorem ctx_inv (ck : Dev nD × KI) : Ctx m ρ K ⊢ cellInv ER (ringRd m ρ) (K ck) (kcell ck) := by
  unfold Ctx records
  iintro ⟨⟨H, -⟩, -⟩
  iapply (at_ck ck _) $$ H
theorem ctx_reached (ck : Dev nD × KI) : Ctx m ρ K ⊢ reached ER (kcell ck) 0 := by
  unfold Ctx records
  iintro ⟨⟨-, H⟩, -⟩
  iapply (at_ck ck _) $$ H

abbrev invBar (c : Dev nD) : sProp 𝕄 := cellInv ER (ringRd m ρ) (K (c, .inl ())) (barCell c)
abbrev invS (k : Fin 24) (c : Dev nD) : sProp 𝕄 := cellInv ER (ringRd m ρ) (K (c, .inr (.inl k))) (sendCell k c)
abbrev invR (k : Fin 24) (c : Dev nD) : sProp 𝕄 := cellInv ER (ringRd m ρ) (K (c, .inr (.inr k))) (recvCell k c)

/-- The device still owes the messages after its first `n`. -/
def owesE (c : Dev nD) (n : ℕ) : sProp 𝕄 := iprop(∃ W, owes (c : Thread nD τ) (owe c n) W)
/-- What sending message `k` takes; what remains until its send wait; what its receive wait takes. -/
def sTok (k : Fin 24) (c : Dev nD) : sProp 𝕄 :=
  iprop(dutyTok ER (sendCell k c) 0 false ∗ dutyTok ER (recvCell k (tgt k c)) 0 false ∗ atPos ER (sendCell k c) 0 ∅ 0)
def sWait (k : Fin 24) (c : Dev nD) : sProp 𝕄 :=
  iprop(atPos ER (sendCell k c) 0 ∅ 0 ∗ cred (tallyAt (sendCell k c) () N))
def rTok (k : Fin 24) (c : Dev nD) : sProp 𝕄 :=
  iprop(atPos ER (recvCell k c) 0 ∅ 0 ∗ cred (tallyAt (recvCell k c) () N))
/-- A cell of message `k` after its wait. -/
def sDone (k : Fin 24) (c : Dev nD) : sProp 𝕄 := semVal (sendCell k c) 0
def rDone (k : Fin 24) (c : Dev nD) : sProp 𝕄 := semVal (recvCell k c) 0

/-! ### The program's semaphores and credits -/

/-- The `j`-th of a row of consecutive semaphores. -/
theorem consec_at {b : ℕ} (hb : b + S24.numel ≤ 50) (j : ℕ) (h : b + j < 50) (inb : ∀ a : Fin 1, (![j] : Fin 1 → ℕ) a + S1.size a ≤ S24.size a) :
    (((SemArray.consecutive b S24 hb).slice (Rect.unit (s := S24) ![j] S1.size inb)).squeeze S_ squeezes_S1_S_).sem = (⟨b + j, h⟩ : Fin 50) := by
  refine Fin.ext ?_
  show b + (S24.rowMajor ((Rect.unit (s := S24) ![j] S1.size inb).emb _)).val = b + j
  refine (congrArg (b + ·) (Shape.rowMajor_val_one (d := S24.size) _)).trans (congrArg (b + ·) ?_)
  show j + 1 * (Shape.reshapeEquiv squeezes_S1_S_.numel_eq (fun i : Fin 0 => i.elim0) (0 : Fin 1)).val = j
  have := (Shape.reshapeEquiv squeezes_S1_S_.numel_eq (fun i : Fin 0 => i.elim0) (0 : Fin 1)).isLt
  have : (Shape.reshapeEquiv squeezes_S1_S_.numel_eq (fun i : Fin 0 => i.elim0) (0 : Fin 1)).val < 1 := this
  omega

theorem ss_eq (j : ℕ) (h : j < 24) (inb : ∀ a : Fin 1, (![j] : Fin 1 → ℕ) a + S1.size a ≤ S24.size a) :
    ((cc0_scratch2.slice (Rect.unit (s := S24) ![j] S1.size inb)).squeeze S_ squeezes_S1_S_).sem = sSem ⟨j, h⟩ :=
  consec_at _ j (by omega) inb
theorem rs_eq (j : ℕ) (h : j < 24) (inb : ∀ a : Fin 1, (![j] : Fin 1 → ℕ) a + S1.size a ≤ S24.size a) :
    ((cc0_scratch3.slice (Rect.unit (s := S24) ![j] S1.size inb)).squeeze S_ squeezes_S1_S_).sem = rSem ⟨j, h⟩ :=
  consec_at _ j (by omega) inb

theorem credit_w (off inb) : (wSl off inb).view.dmaCredit = N := rfl
theorem credit_r1 (off inb) : (r1Sl off inb).view.dmaCredit = N := rfl
theorem credit_r2 (off inb) : (r2Sl off inb).view.dmaCredit = N := rfl

/-! ### Loads and stores -/

section Mem
variable {α : Type} (c : Dev nD)

/-- The elements a rectangle of a whole buffer's view reaches. -/
theorem access_sub {b : Ref sig .tc} {r : Rect b.ty.shape} {S : Finset b.ty.shape.Idx} (h : r.set = S) :
    (Memref.whole b : Memref sig .tc b.space b.ty.shape b.ty.elt).view.setOn r.set ⊆ S := by
  rw [← h]; exact ((View.set_slice ..).symm.trans (View.set_slice_whole b r)).subset

/-- Offsets of a block of rows, in bounds. -/
abbrev InW (off : Fin 2 → ℕ) : Prop := ∀ a, off a + S64x1024.size a ≤ S1024x1024.size a
abbrev InW4 (off : Fin 2 → ℕ) : Prop := ∀ a, off a + S256x1024.size a ≤ S1024x1024.size a
abbrev InX (off : Fin 3 → ℕ) : Prop := ∀ a, off a + S1x64x1024.size a ≤ S1x1024x1024.size a
abbrev InX4 (off : Fin 3 → ℕ) : Prop := ∀ a, off a + S1x256x1024.size a ≤ S1x1024x1024.size a
abbrev InR1 (off : Fin 3 → ℕ) : Prop := ∀ a, off a + S1x64x1024.size a ≤ S2x256x1024.size a
abbrev InR2 (off : Fin 3 → ℕ) : Prop := ∀ a, off a + S1x64x1024.size a ≤ S2x128x1024.size a

/-- A kernel's program that returns an `α`. -/
abbrev TP (F : FTy → Type) [FloatOps F] (α : Type) : Type 1 := Prog (TpuEff nD τ sig (Elt F) Λ₀ .tc) α

/-- Device `c`'s staged input, whole. -/
def xPts (c : Dev nD) : sProp 𝕄 := xM.view.loc (c : Thread nD τ) ↦[Finset.univ]{fullShare} xstg m ρ c
/-- One block of 256 rows of the output. -/
def w4Pts (c : Dev nD) (n : Fin 4) (f : WC F) : sProp 𝕄 := wM.view.loc (c : Thread nD τ) ↦[wSet4 n]{fullShare} f

theorem load_x {r : Rect S1x1024x1024} {hl : xM.view.LoadsAt r.toLoadRect} {Q : α → sProp 𝕄} {k : (r.shape.Idx → Elt F .bf16) → TP F α} :
    xPts m ρ c ⊢ iprop((xPts m ρ c -∗ run c (k (xM.view.readAt (Elt F) r.toLoadRect (xstg m ρ c))) Q)
      -∗ run c (.op (.load xM r.toLoadRect hl) k) Q) := by
  unfold xPts
  exact wp_load 𝒱₀ (c : Thread nD τ) none Set.univ (m := xM) (hl := hl) (Finset.subset_univ _)

theorem load_w {off : Fin 2 → ℕ} {inb : InW off} (n : Fin 16) (h : off = ![64 * n.val, 0]) (q : PosShare TreeShare) (f : WC F)
    {hl : wM.view.LoadsAt (wRect off inb).toLoadRect} {Q : α → sProp 𝕄} {k : (S64x1024.Idx → Elt F .bf16) → TP F α} :
    wPts c n q f ⊢ iprop((wPts c n q f -∗ run c (k (wM.view.readAt (Elt F) (wRect off inb).toLoadRect f)) Q)
      -∗ run c (.op (.load wM (wRect off inb).toLoadRect hl) k) Q) := by
  unfold wPts
  have hs := access_sub (b := cc0_stg1_0) (r := wRect off inb) (wRect_set inb h)
  exact wp_load 𝒱₀ (c : Thread nD τ) none Set.univ (m := wM) (hl := hl) hs

theorem load_w4 {off : Fin 2 → ℕ} {inb : InW4 off} (n : Fin 4) (h : off = ![256 * n.val, 0]) (f : WC F)
    {hl : wM.view.LoadsAt (w4Rect off inb).toLoadRect} {Q : α → sProp 𝕄} {k : (S256x1024.Idx → Elt F .bf16) → TP F α} :
    w4Pts c n f ⊢ iprop((w4Pts c n f -∗ run c (k (wM.view.readAt (Elt F) (w4Rect off inb).toLoadRect f)) Q)
      -∗ run c (.op (.load wM (w4Rect off inb).toLoadRect hl) k) Q) := by
  unfold w4Pts
  have hs := access_sub (b := cc0_stg1_0) (r := w4Rect off inb) (w4Rect_set inb h)
  exact wp_load 𝒱₀ (c : Thread nD τ) none Set.univ (m := wM) (hl := hl) hs

theorem load_r1 {off : Fin 3 → ℕ} {inb : InR1 off} (n : Fin 8) (h : off = ![n.val / 4, 64 * (n.val % 4), 0]) (f : R1C F)
    {hl : r1M.view.LoadsAt (r1Rect off inb).toLoadRect} {Q : α → sProp 𝕄} {k : (S1x64x1024.Idx → Elt F .bf16) → TP F α} :
    r1Pts c n f ⊢ iprop((r1Pts c n f -∗ run c (k (r1M.view.readAt (Elt F) (r1Rect off inb).toLoadRect f)) Q)
      -∗ run c (.op (.load r1M (r1Rect off inb).toLoadRect hl) k) Q) := by
  unfold r1Pts
  have hs := access_sub (b := cc0_scratch0) (r := r1Rect off inb) (r1Rect_set inb h)
  exact wp_load 𝒱₀ (c : Thread nD τ) none Set.univ (m := r1M) (hl := hl) hs

theorem load_r2 {off : Fin 3 → ℕ} {inb : InR2 off} (n : Fin 4) (h : off = ![n.val / 2, 64 * (n.val % 2), 0]) (f : R2C F)
    {hl : r2M.view.LoadsAt (r2Rect off inb).toLoadRect} {Q : α → sProp 𝕄} {k : (S1x64x1024.Idx → Elt F .bf16) → TP F α} :
    r2Pts c n f ⊢ iprop((r2Pts c n f -∗ run c (k (r2M.view.readAt (Elt F) (r2Rect off inb).toLoadRect f)) Q)
      -∗ run c (.op (.load r2M (r2Rect off inb).toLoadRect hl) k) Q) := by
  unfold r2Pts
  have hs := access_sub (b := cc0_scratch1) (r := r2Rect off inb) (r2Rect_set inb h)
  exact wp_load 𝒱₀ (c : Thread nD τ) none Set.univ (m := r2M) (hl := hl) hs

/-- A store over one block turns its contents into `g`, when the payload is `g` there. -/
theorem store_w {off : Fin 2 → ℕ} {inb : InW off} (n : Fin 16) (h : off = ![64 * n.val, 0]) (f g : WC F)
    {v : S64x1024.Idx → Elt F .bf16} (hv : ∀ y : S64x1024.Idx, v y = wAt g (64 * n.val + (y 0).val) (y 1))
    {hx : (wM.access (wRect off inb)).Stores Finset.univ} {hm} {Q : α → sProp 𝕄} {k : PUnit → TP F α} :
    wPts c n fullShare f ⊢ iprop((wPts c n fullShare g -∗ run c (k ⟨⟩) Q)
      -∗ run c (.op (.store wM (wRect off inb) v Finset.univ hx hm) k) Q) := by
  have hs := access_sub (b := cc0_stg1_0) (r := wRect off inb) (wRect_set inb h)
  have e : wPts c n fullShare g = wPts c n fullShare ((wM.access (wRect off inb)).write (Elt F) f v Finset.univ) :=
    pointsTo_congr fun i hi => (write_w inb h f v g hv i hi).symm
  rw [e]
  unfold wPts
  exact wp_store 𝒱₀ (c : Thread nD τ) none Set.univ (m := wM) (hx := hx) (hm := hm) ((View.set_slice ..).subset.trans hs)

theorem store_w4 {off : Fin 2 → ℕ} {inb : InW4 off} (n : Fin 4) (h : off = ![256 * n.val, 0]) (f g : WC F)
    {v : S256x1024.Idx → Elt F .bf16} (hv : ∀ y : S256x1024.Idx, v y = wAt g (256 * n.val + (y 0).val) (y 1))
    {hx : (wM.access (w4Rect off inb)).Stores Finset.univ} {hm} {Q : α → sProp 𝕄} {k : PUnit → TP F α} :
    w4Pts c n f ⊢ iprop((w4Pts c n g -∗ run c (k ⟨⟩) Q)
      -∗ run c (.op (.store wM (w4Rect off inb) v Finset.univ hx hm) k) Q) := by
  have hs := access_sub (b := cc0_stg1_0) (r := w4Rect off inb) (w4Rect_set inb h)
  have e : w4Pts c n g = w4Pts c n ((wM.access (w4Rect off inb)).write (Elt F) f v Finset.univ) :=
    pointsTo_congr fun i hi => (write_w4 inb h f v g hv i hi).symm
  rw [e]
  unfold w4Pts
  exact wp_store 𝒱₀ (c : Thread nD τ) none Set.univ (m := wM) (hx := hx) (hm := hm) ((View.set_slice ..).subset.trans hs)

end Mem

/-! ### What the blocks hold -/

section Vals
variable (c : Dev nD)

theorem wAt_X1 (r : ℕ) (l : Fin 1024) : wAt (X1 m ρ c) r l = xv m ρ c r l := by
  show xAt _ (r % 1024) l = xAt _ r l
  unfold xAt rowF
  simp only [Nat.mod_mod]
theorem blk_mod (r : ℕ) : blk (r % 1024) = blk r := Fin.ext (by show r % 1024 / 64 % 16 = r / 64 % 16; omega)
theorem xv_mod (r : ℕ) (l : Fin 1024) : xv m ρ c (r % 1024) l = xv m ρ c r l := wAt_X1 m ρ c r l
theorem w1v_mod (r : ℕ) (l : Fin 1024) : w1v m ρ c (r % 1024) l = w1v m ρ c r l := by
  unfold w1v; rw [blk_mod, xv_mod, xv_mod]
theorem wAt_W1 (r : ℕ) (l : Fin 1024) : wAt (W1 m ρ c) r l = w1v m ρ c r l := w1v_mod m ρ c r l
theorem wAt_FIN (r : ℕ) (l : Fin 1024) : wAt (FIN m ρ) r l = finv m ρ r l := by
  show finv m ρ (r % 1024) l = _
  unfold finv; rw [blk_mod, w1v_mod, w1v_mod]

theorem blk_row (n : Fin 16) {a : ℕ} (ha : a < 64) : blk (64 * n.val + a) = n :=
  Fin.ext (by show (64 * n.val + a) / 64 % 16 = n.val; have := n.isLt; omega)

/-- Block `n'` of the first receive buffer of `c` is block `n` of the rows. -/
def Rel1 (c : Dev nD) (n' : Fin 8) (n : Fin 16) : Prop :=
  (n'.val / 4 = 0 ∧ hA c + n'.val % 4 = n.val ∧ n.val < 8) ∨ (n'.val / 4 = 1 ∧ hB c + n'.val % 4 = n.val ∧ 8 ≤ n.val)
def Rel2 (c : Dev nD) (n' : Fin 4) (n : Fin 16) : Prop :=
  (n'.val / 2 = 0 ∧ qA c + n'.val % 2 = n.val ∧ n.val < 8) ∨ (n'.val / 2 = 1 ∧ qB c + n'.val % 2 = n.val ∧ 8 ≤ n.val)
instance (c n' n) : Decidable (Rel1 c n' n) := by unfold Rel1; infer_instance
instance (c n' n) : Decidable (Rel2 c n' n) := by unfold Rel2; infer_instance

theorem R1_at {n' : Fin 8} {n : Fin 16} (h : Rel1 c n' n) {a : ℕ} (ha : a < 64) (l : Fin 1024) :
    R1 m ρ c (r1Ix (n'.val / 4) (64 * (n'.val % 4) + a) l) = xv m ρ (p1 n c) (64 * n.val + a) l := by
  unfold R1 r1Ix p1
  rcases h with ⟨h0, h1, h2⟩ | ⟨h0, h1, h2⟩
  · rw [if_pos (by show n'.val / 4 % 2 = 0; omega), if_pos h2]
    refine congrArg (fun r => xv m ρ (x1 c) r l) ?_
    show 64 * hA c + (64 * (n'.val % 4) + a) % 256 = _
    omega
  · rw [if_neg (by show ¬ n'.val / 4 % 2 = 0; omega), if_neg (by omega)]
    refine congrArg (fun r => xv m ρ (x3 c) r l) ?_
    show 64 * hB c + (64 * (n'.val % 4) + a) % 256 = _
    omega

theorem R2_at {n' : Fin 4} {n : Fin 16} (h : Rel2 c n' n) {a : ℕ} (ha : a < 64) (l : Fin 1024) :
    R2 m ρ c (r2Ix (n'.val / 2) (64 * (n'.val % 2) + a) l) = w1v m ρ (p2 n c) (64 * n.val + a) l := by
  unfold R2 r2Ix p2
  rcases h with ⟨h0, h1, h2⟩ | ⟨h0, h1, h2⟩
  · rw [if_pos (by show n'.val / 2 % 2 = 0; omega), if_pos h2]
    refine congrArg (fun r => w1v m ρ (x3 c) r l) ?_
    show 64 * qA c + (64 * (n'.val % 2) + a) % 128 = _
    omega
  · rw [if_neg (by show ¬ n'.val / 2 % 2 = 0; omega), if_neg (by omega)]
    refine congrArg (fun r => w1v m ρ (x1 c) r l) ?_
    show 64 * qB c + (64 * (n'.val % 2) + a) % 128 = _
    omega

/-- A block of the input, loaded and reshaped, is the block of `X1`. -/
theorem cast_val {off : Fin 3 → ℕ} {inb : InX off} {n : Fin 16} (h : off = ![0, 64 * n.val, 0]) (hc) (y : S64x1024.Idx) :
    shapeCast S64x1024 (xM.view.readAt (Elt F) (xRect off inb).toLoadRect (xstg m ρ c)) hc y
      = wAt (X1 m ρ c) (64 * n.val + (y 0).val) (y 1) :=
  (read_x inb h _ hc y).trans (wAt_X1 m ρ c _ _).symm
theorem cast_val4 {off : Fin 3 → ℕ} {inb : InX4 off} {n : Fin 4} (h : off = ![0, 256 * n.val, 0]) (hc) (y : S256x1024.Idx) :
    shapeCast S256x1024 (xM.view.readAt (Elt F) (x4Rect off inb).toLoadRect (xstg m ρ c)) hc y
      = wAt (X1 m ρ c) (256 * n.val + (y 0).val) (y 1) :=
  (read_x4 inb h _ hc y).trans (wAt_X1 m ρ c _ _).symm

theorem add1_row {n : Fin 16} {n' : Fin 8} (hr : Rel1 c n' n) {a : ℕ} (ha : a < 64) (l : Fin 1024) :
    FloatOps.addf (wAt (X1 m ρ c) (64 * n.val + a) l) (R1 m ρ c (r1Ix (n'.val / 4) (64 * (n'.val % 4) + a) l))
      = wAt (W1 m ρ c) (64 * n.val + a) l := by
  rw [wAt_W1, wAt_X1, R1_at m ρ c hr ha]
  unfold w1v
  rw [blk_row n ha]
theorem add2_row {n : Fin 16} {n' : Fin 4} (hr : Rel2 c n' n ∧ own n = c) {a : ℕ} (ha : a < 64) (l : Fin 1024) :
    FloatOps.addf (wAt (W1 m ρ c) (64 * n.val + a) l) (R2 m ρ c (r2Ix (n'.val / 2) (64 * (n'.val % 2) + a) l))
      = wAt (FIN m ρ) (64 * n.val + a) l := by
  rw [wAt_FIN, wAt_W1, R2_at m ρ c hr.1 ha]
  unfold finv
  rw [blk_row n ha, hr.2]

/-- The sum of a block of `X1` and the received one is the block of `W1`. -/
theorem add1_val {off : Fin 2 → ℕ} {off3 : Fin 3 → ℕ} {inb : InW off} {inb3 : InR1 off3} {n : Fin 16} {n' : Fin 8}
    (h : off = ![64 * n.val, 0]) (h3 : off3 = ![n'.val / 4, 64 * (n'.val % 4), 0]) (hr : Rel1 c n' n) (hc hc') (y : S64x1024.Idx) :
    FloatOps.addf (shapeCast S64x1024 (wM.view.readAt (Elt F) (wRect off inb).toLoadRect (X1 m ρ c)) hc y)
        (shapeCast S64x1024 (r1M.view.readAt (Elt F) (r1Rect off3 inb3).toLoadRect (R1 m ρ c)) hc' y)
      = wAt (W1 m ρ c) (64 * n.val + (y 0).val) (y 1) :=
  (congrArg₂ FloatOps.addf (read_w inb h _ hc y) (read_r1 inb3 h3 _ hc' y)).trans (add1_row m ρ c hr (y 0).isLt _)
/-- The sum of a block of `W1` and the received one is finished, on the device that finishes it. -/
theorem add2_val {off : Fin 2 → ℕ} {off3 : Fin 3 → ℕ} {inb : InW off} {inb3 : InR2 off3} {n : Fin 16} {n' : Fin 4}
    (h : off = ![64 * n.val, 0]) (h3 : off3 = ![n'.val / 2, 64 * (n'.val % 2), 0]) (hr : Rel2 c n' n ∧ own n = c) (hc hc') (y : S64x1024.Idx) :
    FloatOps.addf (shapeCast S64x1024 (wM.view.readAt (Elt F) (wRect off inb).toLoadRect (W1 m ρ c)) hc y)
        (shapeCast S64x1024 (r2M.view.readAt (Elt F) (r2Rect off3 inb3).toLoadRect (R2 m ρ c)) hc' y)
      = wAt (FIN m ρ) (64 * n.val + (y 0).val) (y 1) :=
  (congrArg₂ FloatOps.addf (read_w inb h _ hc y) (read_r2 inb3 h3 _ hc' y)).trans (add2_row m ρ c hr (y 0).isLt _)

end Vals

/-! ### The messages -/

/-- What the first exchange carries, and the second. -/
theorem rel_send1 (k : Fin 24) (c : Dev nD) : k.val < 8 → Rel1 (tgt k c) (r1dst k c) (wsrc k c) ∧ p1 (wsrc k c) (tgt k c) = c := by
  revert k c; decide
theorem rel_send2 (k : Fin 24) (c : Dev nD) : 8 ≤ k.val → k.val < 12 → Rel2 (tgt k c) (r2dst k) (wsrc k c) ∧ p2 (wsrc k c) (tgt k c) = c := by
  revert k c; decide

theorem send1_row (k : Fin 24) (c : Dev nD) (hk : k.val < 8) {a : ℕ} (ha : a < 64) (l : Fin 1024) :
    xv m ρ c (64 * (wsrc k c).val + a) l = R1 m ρ (tgt k c) (r1Ix ((r1dst k c).val / 4) (64 * ((r1dst k c).val % 4) + a) l) := by
  rw [R1_at m ρ (tgt k c) (rel_send1 k c hk).1 ha, (rel_send1 k c hk).2]
theorem send2_row (k : Fin 24) (c : Dev nD) (hk : 8 ≤ k.val) (hk' : k.val < 12) {a : ℕ} (ha : a < 64) (l : Fin 1024) :
    w1v m ρ c (64 * (wsrc k c).val + a) l = R2 m ρ (tgt k c) (r2Ix ((r2dst k).val / 2) (64 * ((r2dst k).val % 2) + a) l) := by
  rw [R2_at m ρ (tgt k c) (rel_send2 k c hk hk').1 ha, (rel_send2 k c hk hk').2]

theorem rFull_1 {k : Fin 24} (hk : k.val < 8) (c : Dev nD) : rFull m ρ k c = r1Pts c (r1dst k (tgt k c)) (R1 m ρ c) := if_pos hk
theorem rFull_2 {k : Fin 24} (hk : 8 ≤ k.val) (c : Dev nD) : rFull m ρ k c = r2Pts c (r2dst k) (R2 m ρ c) := if_neg (by omega)
theorem rAny_1 {k : Fin 24} (hk : k.val < 8) (c : Dev nD) : rAny (F := F) k (tgt k c) = iprop(∃ f, r1Pts (tgt k c) (r1dst k c) f) := by
  unfold rAny; rw [if_pos hk, tgt_tgt]
theorem rAny_2 {k : Fin 24} (hk : 8 ≤ k.val) (c : Dev nD) : rAny (F := F) k c = iprop(∃ f, r2Pts c (r2dst k) f) := if_neg (by omega)
theorem sendPay_lo {k : Fin 24} (hk : k.val < 12) (c : Dev nD) : sendPay m ρ k c = iprop(emp) := if_pos hk
theorem sendPay_hi {k : Fin 24} (hk : 12 ≤ k.val) (c : Dev nD) : sendPay m ρ k c = wFin m ρ (srcB k) (qShare k) c := if_neg (by omega)
theorem recvPay_lo {k : Fin 24} (hk : k.val < 12) (c : Dev nD) : recvPay m ρ k c = iprop(rFull m ρ k c ∗ wAny k (tgt k c)) := if_pos hk
theorem recvPay_hi {k : Fin 24} (hk : 12 ≤ k.val) (c : Dev nD) : recvPay m ρ k c = wFin m ρ (pre k) fullShare c := if_neg (by omega)

/-- A block of the output buffer while it holds the input, and the sum of two inputs. -/
def wX (k : Fin 24) (c : Dev nD) : sProp 𝕄 := wPts c (wsrc k c) fullShare (X1 m ρ c)
def wW (k : Fin 24) (c : Dev nD) : sProp 𝕄 := wPts c (wsrc k c) fullShare (W1 m ρ c)

section Msg
variable {α : Type} (c : Dev nD) (k : Fin 24)

/-- A message whose source block travels with its landing: the tokens and the credit of one send. -/
theorem send_land {src dst : Memref sig .tc .vmem S64x1024 .bf16} (n : Dev nD) (hn : n = tgt k c) (hk : k.val < 12)
    {ss rs : DmaSem sig} (hss : ss = sSem k) (hrs : rs = rSem k) (p p' : ℕ) (hp : pos k = p ∧ p + 1 = p')
    (hN : dst.view.amount (.dma (rSem k)) = N) (fs : Buf (Elt F) (src.view.loc (c : Thread nD τ))) (fd : Buf (Elt F) (dst.view.loc (tgt k c : Thread nD τ)))
    (hpay : iprop((dst.view.loc (tgt k c : Thread nD τ) ↦[dst.view.set]{fullShare} (dst.view.write (Elt F) fd (src.view.read (Elt F) fs) Finset.univ))
        ∗ (src.view.loc (c : Thread nD τ) ↦[src.view.set]{fullShare} fs)) ⊢ recvPay m ρ k (tgt k c))
    {hsc : (dst : Memref sig (Dev.tc n : Thread nD τ).2.kind .vmem S64x1024 .bf16).view.ref.isScScratch = false}
    {hsrc : src.view.WordExact} {hdst : dst.view.WordExact}
    {hsem : DmaTarget.Typed .vmem (.dma rs) (.remote (Dev.tc n : Thread nD τ) dst (.dma ss) hsc)}
    {Q : α → sProp 𝕄} {kk : PUnit → TP F α} :
    Ctx m ρ K ⊢ iprop(owesE c p -∗ sTok k c -∗ (src.view.loc (c : Thread nD τ) ↦[src.view.set]{fullShare} fs)
      -∗ (dst.view.loc (tgt k c : Thread nD τ) ↦[dst.view.set]{fullShare} fd)
      -∗ (owesE c p' -∗ sWait k c -∗ run c (kk ⟨⟩) Q)
      -∗ run c (.op (.enqueueDma src (.remote (Dev.tc n : Thread nD τ) dst (.dma ss) hsc) (.dma rs) hsrc hdst hsem) kk) Q) := by
  subst hn hss hrs
  obtain ⟨rfl, rfl⟩ := hp
  unfold sTok owesE
  iintro #HC ⟨%W, HO⟩ ⟨HtS, HtR, HatS⟩ Hw Hr Hk
  ihave #HiS := (ctx_inv m ρ K (c, .inr (.inl k))) $$ HC
  ihave #HiR := (ctx_inv m ρ K (tgt k c, .inr (.inr k))) $$ HC
  ihave #HrS := (ctx_reached m ρ K (c, .inr (.inl k))) $$ HC
  ihave #HrR := (ctx_reached m ρ K (tgt k c, .inr (.inr k))) $$ HC
  iapply (Rounds.wp_send_landing_pointsTo 𝒱₀ ER (ringRd m ρ) (c : Thread nD τ) none (κ₁ := K (c, .inr (.inl k))) (κ₂ := K (tgt k c, .inr (.inr k)))
    (r₁ := 0) (r₂ := 0) (d₁ := false) (d₂ := false) (fd := fd) (fs := fs) (q := fullShare)
    (by rw [duties_send]; exact Finset.mem_singleton_self _) (by rw [duties_recv]; exact Finset.mem_singleton_self _)
    () () N hN (amount_send m ρ c k false) (amount_recv m ρ (tgt k c) k false) (owe c (pos k + 1)) (owe_step c k) (W := W)
    (Entails.of_eq ((payload_send m ρ c k false).trans (sendPay_lo m ρ hk c)).symm)
    (hpay.trans (Entails.of_eq (payload_recv m ρ (tgt k c) k false).symm))) $$ [Hw Hr HO HtS HtR]
  · isplitr; · iexact HiS
    isplitr; · iexact HiR
    isplitl [Hw]; · iexact Hw
    isplitl [Hr]; · iexact Hr
    isplitl [HO]; · iexact HO
    isplitl [HtS]; · iexact HtS
    isplitr; · iexact HrS
    isplitl [HtR]; · iexact HtR
    iexact HrR
  iintro ⟨Hc, HO⟩
  iapply Hk $$ [HO] [HatS Hc]
  · iexists W; iexact HO
  · unfold sWait; isplitl [HatS]; · iexact HatS
    iexact Hc

/-- A message of the first exchange leaves: the block and the place it lands in go with it. -/
theorem send_r1 (hk : k.val < 8) {off : Fin 2 → ℕ} {off3 : Fin 3 → ℕ} {inb : InW off} {inb3 : InR1 off3}
    (h : off = ![64 * (wsrc k c).val, 0]) (h3 : off3 = ![(r1dst k c).val / 4, 64 * ((r1dst k c).val % 4), 0])
    {n : Dev nD} (hn : n = tgt k c) {ss rs : DmaSem sig} (hss : ss = sSem k) (hrs : rs = rSem k) (p p' : ℕ) (hp : pos k = p ∧ p + 1 = p')
    {hsc : (r1Sl off3 inb3 : Memref sig (Dev.tc n : Thread nD τ).2.kind .vmem S64x1024 .bf16).view.ref.isScScratch = false}
    {hsrc : (wSl off inb).view.WordExact} {hdst : (r1Sl off3 inb3).view.WordExact}
    {hsem : DmaTarget.Typed .vmem (.dma rs) (.remote (Dev.tc n : Thread nD τ) (r1Sl off3 inb3) (.dma ss) hsc)}
    {Q : α → sProp 𝕄} {kk : PUnit → TP F α} :
    Ctx m ρ K ⊢ iprop(owesE c p -∗ sTok k c -∗ wX m ρ k c -∗ rAny k (tgt k c)
      -∗ (owesE c p' -∗ sWait k c -∗ run c (kk ⟨⟩) Q)
      -∗ run c (.op (.enqueueDma (wSl off inb) (.remote (Dev.tc n : Thread nD τ) (r1Sl off3 inb3) (.dma ss) hsc) (.dma rs) hsrc hdst hsem) kk) Q) := by
  have hpay : ∀ f : R1C F, iprop(((r1Sl off3 inb3).view.loc (tgt k c : Thread nD τ) ↦[(r1Sl off3 inb3).view.set]{fullShare} ((r1Sl off3 inb3).view.write (Elt F) f ((wSl off inb).view.read (Elt F) (X1 m ρ c)) Finset.univ))
      ∗ ((wSl off inb).view.loc (c : Thread nD τ) ↦[(wSl off inb).view.set]{fullShare} X1 m ρ c)) ⊢ recvPay m ρ k (tgt k c) := by
    intro f
    rw [recvPay_lo m ρ (by omega), rFull_1 m ρ hk, wSl_set inb h, r1Sl_set inb3 h3, tgt_tgt]
    unfold r1Pts wAny wPts
    iintro ⟨Hr, Hw⟩
    isplitl [Hr]
    · iapply (Entails.of_eq (pointsTo_congr (land_r1 inb inb3 h h3 f (X1 m ρ c) (R1 m ρ (tgt k c)) fun y =>
        (wAt_X1 m ρ c _ _).trans (send1_row m ρ k c hk (y 0).isLt _)))) $$ Hr
    · iexists (X1 m ρ c); iexact Hw
  rw [rAny_1 hk]
  iintro HC HO Ht Hw ⟨%f, Hr⟩ Hk
  have e := send_land m ρ K c k (src := wSl off inb) (dst := r1Sl off3 inb3) n hn (by omega) hss hrs p p' hp (credit_r1 off3 inb3) (X1 m ρ c) f (hpay f)
    (hsc := hsc) (hsrc := hsrc) (hdst := hdst) (hsem := hsem) (Q := Q) (kk := kk)
  rw [wSl_set inb h, r1Sl_set inb3 h3] at e
  unfold wX wPts r1Pts
  iapply e $$ HC HO Ht Hw Hr Hk

/-- A message of the second exchange. -/
theorem send_r2 (hk : 8 ≤ k.val) (hk' : k.val < 12) {off : Fin 2 → ℕ} {off3 : Fin 3 → ℕ} {inb : InW off} {inb3 : InR2 off3}
    (h : off = ![64 * (wsrc k c).val, 0]) (h3 : off3 = ![(r2dst k).val / 2, 64 * ((r2dst k).val % 2), 0])
    {n : Dev nD} (hn : n = tgt k c) {ss rs : DmaSem sig} (hss : ss = sSem k) (hrs : rs = rSem k) (p p' : ℕ) (hp : pos k = p ∧ p + 1 = p')
    {hsc : (r2Sl off3 inb3 : Memref sig (Dev.tc n : Thread nD τ).2.kind .vmem S64x1024 .bf16).view.ref.isScScratch = false}
    {hsrc : (wSl off inb).view.WordExact} {hdst : (r2Sl off3 inb3).view.WordExact}
    {hsem : DmaTarget.Typed .vmem (.dma rs) (.remote (Dev.tc n : Thread nD τ) (r2Sl off3 inb3) (.dma ss) hsc)}
    {Q : α → sProp 𝕄} {kk : PUnit → TP F α} :
    Ctx m ρ K ⊢ iprop(owesE c p -∗ sTok k c -∗ wW m ρ k c -∗ rAny k (tgt k c)
      -∗ (owesE c p' -∗ sWait k c -∗ run c (kk ⟨⟩) Q)
      -∗ run c (.op (.enqueueDma (wSl off inb) (.remote (Dev.tc n : Thread nD τ) (r2Sl off3 inb3) (.dma ss) hsc) (.dma rs) hsrc hdst hsem) kk) Q) := by
  have hpay : ∀ f : R2C F, iprop(((r2Sl off3 inb3).view.loc (tgt k c : Thread nD τ) ↦[(r2Sl off3 inb3).view.set]{fullShare} ((r2Sl off3 inb3).view.write (Elt F) f ((wSl off inb).view.read (Elt F) (W1 m ρ c)) Finset.univ))
      ∗ ((wSl off inb).view.loc (c : Thread nD τ) ↦[(wSl off inb).view.set]{fullShare} W1 m ρ c)) ⊢ recvPay m ρ k (tgt k c) := by
    intro f
    rw [recvPay_lo m ρ hk', rFull_2 m ρ hk, wSl_set inb h, r2Sl_set inb3 h3, tgt_tgt]
    unfold r2Pts wAny wPts
    iintro ⟨Hr, Hw⟩
    isplitl [Hr]
    · iapply (Entails.of_eq (pointsTo_congr (land_r2 inb inb3 h h3 f (W1 m ρ c) (R2 m ρ (tgt k c)) fun y =>
        (wAt_W1 m ρ c _ _).trans (send2_row m ρ k c hk hk' (y 0).isLt _)))) $$ Hr
    · iexists (W1 m ρ c); iexact Hw
  rw [rAny_2 hk]
  iintro HC HO Ht Hw ⟨%f, Hr⟩ Hk
  have e := send_land m ρ K c k (src := wSl off inb) (dst := r2Sl off3 inb3) n hn hk' hss hrs p p' hp (credit_r2 off3 inb3) (W1 m ρ c) f (hpay f)
    (hsc := hsc) (hsrc := hsrc) (hdst := hdst) (hsem := hsem) (Q := Q) (kk := kk)
  rw [wSl_set inb h, r2Sl_set inb3 h3] at e
  unfold wW wPts r2Pts
  iapply e $$ HC HO Ht Hw Hr Hk

/-- A message whose source comes back with its send semaphore. -/
theorem send_back {src dst : Memref sig .tc .vmem S64x1024 .bf16} (n : Dev nD) (hn : n = tgt k c)
    {ss rs : DmaSem sig} (hss : ss = sSem k) (hrs : rs = rSem k) (p p' : ℕ) (hp : pos k = p ∧ p + 1 = p') (q : PosShare TreeShare)
    (hN : dst.view.amount (.dma (rSem k)) = N) (fs : Buf (Elt F) (src.view.loc (c : Thread nD τ))) (fd : Buf (Elt F) (dst.view.loc (tgt k c : Thread nD τ)))
    (hpay₁ : (src.view.loc (c : Thread nD τ) ↦[src.view.set]{q} fs) ⊢ sendPay m ρ k c)
    (hpay₂ : (dst.view.loc (tgt k c : Thread nD τ) ↦[dst.view.set]{fullShare} (dst.view.write (Elt F) fd (src.view.read (Elt F) fs) Finset.univ))
        ⊢ recvPay m ρ k (tgt k c))
    {hsc : (dst : Memref sig (Dev.tc n : Thread nD τ).2.kind .vmem S64x1024 .bf16).view.ref.isScScratch = false}
    {hsrc : src.view.WordExact} {hdst : dst.view.WordExact}
    {hsem : DmaTarget.Typed .vmem (.dma rs) (.remote (Dev.tc n : Thread nD τ) dst (.dma ss) hsc)}
    {Q : α → sProp 𝕄} {kk : PUnit → TP F α} :
    Ctx m ρ K ⊢ iprop(owesE c p -∗ sTok k c -∗ (src.view.loc (c : Thread nD τ) ↦[src.view.set]{q} fs)
      -∗ (dst.view.loc (tgt k c : Thread nD τ) ↦[dst.view.set]{fullShare} fd)
      -∗ (owesE c p' -∗ sWait k c -∗ run c (kk ⟨⟩) Q)
      -∗ run c (.op (.enqueueDma src (.remote (Dev.tc n : Thread nD τ) dst (.dma ss) hsc) (.dma rs) hsrc hdst hsem) kk) Q) := by
  subst hn hss hrs
  obtain ⟨rfl, rfl⟩ := hp
  unfold sTok owesE
  iintro #HC ⟨%W, HO⟩ ⟨HtS, HtR, HatS⟩ Hw Hr Hk
  ihave #HiS := (ctx_inv m ρ K (c, .inr (.inl k))) $$ HC
  ihave #HiR := (ctx_inv m ρ K (tgt k c, .inr (.inr k))) $$ HC
  ihave #HrS := (ctx_reached m ρ K (c, .inr (.inl k))) $$ HC
  ihave #HrR := (ctx_reached m ρ K (tgt k c, .inr (.inr k))) $$ HC
  iapply (Rounds.wp_send_pointsTo 𝒱₀ ER (ringRd m ρ) (c : Thread nD τ) none (κ₁ := K (c, .inr (.inl k))) (κ₂ := K (tgt k c, .inr (.inr k)))
    (r₁ := 0) (r₂ := 0) (d₁ := false) (d₂ := false) (fd := fd) (fs := fs) (q := q)
    (by rw [duties_send]; exact Finset.mem_singleton_self _) (by rw [duties_recv]; exact Finset.mem_singleton_self _)
    () () N hN (amount_send m ρ c k false) (amount_recv m ρ (tgt k c) k false) (owe c (pos k + 1)) (owe_step c k) (W := W)
    (hpay₁.trans (Entails.of_eq (payload_send m ρ c k false).symm))
    (hpay₂.trans (Entails.of_eq (payload_recv m ρ (tgt k c) k false).symm))) $$ [Hw Hr HO HtS HtR]
  · isplitr; · iexact HiS
    isplitr; · iexact HiR
    isplitl [Hw]; · iexact Hw
    isplitl [Hr]; · iexact Hr
    isplitl [HO]; · iexact HO
    isplitl [HtS]; · iexact HtS
    isplitr; · iexact HrS
    isplitl [HtR]; · iexact HtR
    iexact HrR
  iintro ⟨Hc, HO⟩
  iapply Hk $$ [HO] [HatS Hc]
  · iexists W; iexact HO
  · unfold sWait; isplitl [HatS]; · iexact HatS
    iexact Hc

/-- A finished block is handed on, to the same place of the partner's output. -/
theorem send_fin (hk : 12 ≤ k.val) {off : Fin 2 → ℕ} {inb : InW off} (h : off = ![64 * (wsrc k c).val, 0])
    {n : Dev nD} (hn : n = tgt k c) {ss rs : DmaSem sig} (hss : ss = sSem k) (hrs : rs = rSem k) (p p' : ℕ) (hp : pos k = p ∧ p + 1 = p')
    {hsc : (wSl off inb : Memref sig (Dev.tc n : Thread nD τ).2.kind .vmem S64x1024 .bf16).view.ref.isScScratch = false}
    {hsrc : (wSl off inb).view.WordExact} {hdst : (wSl off inb).view.WordExact}
    {hsem : DmaTarget.Typed .vmem (.dma rs) (.remote (Dev.tc n : Thread nD τ) (wSl off inb) (.dma ss) hsc)}
    {Q : α → sProp 𝕄} {kk : PUnit → TP F α} :
    Ctx m ρ K ⊢ iprop(owesE c p -∗ sTok k c -∗ wFin m ρ (srcB k) (qShare k) c -∗ wAny (pre k) (tgt k c)
      -∗ (owesE c p' -∗ sWait k c -∗ run c (kk ⟨⟩) Q)
      -∗ run c (.op (.enqueueDma (wSl off inb) (.remote (Dev.tc n : Thread nD τ) (wSl off inb) (.dma ss) hsc) (.dma rs) hsrc hdst hsem) kk) Q) := by
  have hpre : wsrc (pre k) (tgt k c) = wsrc k c := (wsrc_pre k c).resolve_right (by omega)
  have hp1 : (((wSl off inb).view.loc (c : Thread nD τ) ↦[(wSl off inb).view.set]{qShare k} FIN m ρ) : sProp 𝕄) ⊢ sendPay m ρ k c := by
    rw [sendPay_hi m ρ hk]; unfold wFin wPts; rw [wsrc_srcB, wSl_set inb h]
  have hp2 : ∀ fd : WC F, (((wSl off inb).view.loc (tgt k c : Thread nD τ) ↦[(wSl off inb).view.set]{fullShare} ((wSl off inb).view.write (Elt F) fd ((wSl off inb).view.read (Elt F) (FIN m ρ)) Finset.univ)) : sProp 𝕄)
      ⊢ recvPay m ρ k (tgt k c) := by
    intro fd
    rw [recvPay_hi m ρ hk, wSl_set inb h]; unfold wFin wPts; rw [hpre]
    exact Entails.of_eq (pointsTo_congr (land_w inb h fd (FIN m ρ)))
  unfold wFin wAny wPts
  rw [wsrc_srcB, hpre]
  iintro HC HO Ht Hw ⟨%fd, Hr⟩ Hk
  have e := send_back m ρ K c k (src := wSl off inb) (dst := wSl off inb) n hn hss hrs p p' hp (qShare k) (credit_w off inb) (FIN m ρ) fd hp1 (hp2 fd)
    (hsc := hsc) (hsrc := hsrc) (hdst := hdst) (hsem := hsem) (Q := Q) (kk := kk)
  rw [wSl_set inb h] at e
  iapply e $$ HC HO Ht Hw Hr Hk

/-- The wait for a message's source to be free again. -/
theorem wait_send {sp : Space} {s' : Shape} {src : Memref sig .tc sp s' .bf16} {off : Fin 2 → ℕ} {inb : InW off} {ss : DmaSem sig} (hss : ss = sSem k) (p : ℕ)
    {hsrc : src.view.WordExact} {hdst : (wSl off inb).view.WordExact} {Q : α → sProp 𝕄} {kk : PUnit → TP F α} :
    Ctx m ρ K ⊢ iprop(owesE c p -∗ sWait k c -∗ (owesE c p -∗ sendPay m ρ k c -∗ sDone k c -∗ run c (kk ⟨⟩) Q)
      -∗ run c (.op (.waitDma2 ss src (wSl off inb) hsrc hdst) kk) Q) := by
  subst hss
  unfold owesE sWait sDone
  iintro #HC ⟨%W, HO⟩ ⟨Hat, Hc⟩ Hk
  ihave #HiS := (ctx_inv m ρ K (c, .inr (.inl k))) $$ HC
  ihave #Hlev := (ctx_levs m ρ K) $$ HC
  iapply (Rounds.wp_wait_rest_token 𝒱₀ ER (ringRd m ρ) (c : Thread nD τ) none (κ := K (c, .inr (.inl k)))
      (wpE_waitDma2_eq 𝒱₀ (c : Thread nD τ) none Set.univ) (Set.mem_univ _) () (O := owe c p) (W := W) (R := 0) (m := 0) (T := ∅)
      (by rw [Nat.zero_add, expect_send])) $$ [Hc HO Hat]
  · isplitr; · iexact HiS
    isplitl [Hc]; · iexact Hc
    isplitl [HO]; · iexact HO
    isplitr; · iapply (mayWait_send c p k); iexact Hlev
    iexact Hat
  iintro ⟨HO, Hat, -, Hpay⟩
  ihave Hpay := (Entails.of_eq (rest_send m ρ c k)) $$ Hpay
  imod (Rounds.cell_close ER (ringRd m ρ) (Set.mem_univ (K (c, .inr (.inl k)))) (fun h => h) (R := 0 + 1) (duties_later m ρ (sendCell k c))) $$ [Hat] with Hz
  · isplitr; · iexact HiS
    iexact Hat
  iapply Hk $$ [HO] Hpay Hz
  iexists (insert (SemLoc.dma (sSem k), ()) W); iexact HO

/-- The wait for a message to arrive. -/
theorem wait_recv {sp : Space} {s' : Shape} {src : Memref sig .tc sp s' .bf16} {dst : Memref sig .tc .vmem S64x1024 .bf16} (hN : dst.view.dmaCredit = N)
    {rs : DmaSem sig} (hrs : rs = rSem k) (p : ℕ) (hlev : ∀ k' ∈ unsent p, rlev k < rlev k')
    {hsrc : src.view.WordExact} {hdst : dst.view.WordExact} {Q : α → sProp 𝕄} {kk : PUnit → TP F α} :
    Ctx m ρ K ⊢ iprop(owesE c p -∗ rTok k c -∗ (owesE c p -∗ recvPay m ρ k c -∗ rDone k c -∗ run c (kk ⟨⟩) Q)
      -∗ run c (.op (.waitDma2 rs src dst hsrc hdst) kk) Q) := by
  subst hrs
  unfold owesE rTok rDone
  iintro #HC ⟨%W, HO⟩ ⟨Hat, Hc⟩ Hk
  ihave #HiS := (ctx_inv m ρ K (c, .inr (.inr k))) $$ HC
  ihave #Hlev := (ctx_levs m ρ K) $$ HC
  rw [← hN]
  iapply (Rounds.wp_wait_rest_token 𝒱₀ ER (ringRd m ρ) (c : Thread nD τ) none (κ := K (c, .inr (.inr k)))
      (wpE_waitDma2_eq 𝒱₀ (c : Thread nD τ) none Set.univ) (Set.mem_univ _) () (O := owe c p) (W := W) (R := 0) (m := 0) (T := ∅)
      (by rw [Nat.zero_add, expect_recv])) $$ [Hc HO Hat]
  · isplitr; · iexact HiS
    isplitl [Hc]; · iexact Hc
    isplitl [HO]; · iexact HO
    isplitr; · iapply (mayWait_recv c p k hlev); iexact Hlev
    iexact Hat
  iintro ⟨HO, Hat, -, Hpay⟩
  ihave Hpay := (Entails.of_eq (rest_recv m ρ c k)) $$ Hpay
  imod (Rounds.cell_close ER (ringRd m ρ) (Set.mem_univ (K (c, .inr (.inr k)))) (fun h => h) (R := 0 + 1) (duties_later m ρ (recvCell k c))) $$ [Hat] with Hz
  · isplitr; · iexact HiS
    iexact Hat
  iapply Hk $$ [HO] Hpay Hz
  iexists (insert (SemLoc.dma (rSem k), ()) W); iexact HO

end Msg

end Cert.KernelIdeal.Ar

end
-- ==== Proof.I.Moves.lean ====
/-
  The kernel's recurring moves, over messages: the barrier, handing a finished block on, waiting for a
  message, adding a received block.
-/
module

public import proofs.«01_k».proof.Proof.I.Steps

@[expose] public section

noncomputable section

namespace Cert.KernelIdeal.Ar

open Cert.KernelIdeal.Facts₀
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KI → ℕ)

section Moves
variable {α : Type} (c : Dev nD)

/-! ### The barrier -/

/-- What device `c` holds of its barrier cell, and of its partners'. -/
def barTok (c : Dev nD) : sProp 𝕄 :=
  iprop(dutyTok ER (barCell (x1 c)) 0 false ∗ dutyTok ER (barCell (x3 c)) 0 true ∗ atPos ER (barCell c) 0 ∅ 0 ∗ cred (tallyAt (barCell c) () 2))
def barDone (c : Dev nD) : sProp 𝕄 := semVal (barCell c) 0

theorem barPay_false : barPay (F := F) (x1 c) false = iprop(rAny 0 c ∗ rAny 1 c ∗ rAny 2 c ∗ rAny 3 c ∗ rAny 10 c ∗ rAny 11 c) := by
  unfold barPay; rw [if_neg (by decide), x1_x1]
theorem barPay_true : barPay (F := F) (x3 c) true = iprop(rAny 4 c ∗ rAny 5 c ∗ rAny 6 c ∗ rAny 7 c ∗ rAny 8 c ∗ rAny 9 c) := by
  unfold barPay; rw [if_pos rfl, x3_x3]

/-- What arrives with the barrier, by message. -/
theorem barPay_got (c : Dev nD) : iprop(barPay (F := F) c false ∗ barPay c true) = iprop((rAny 0 (tgt 0 c) ∗ rAny 1 (tgt 1 c) ∗ rAny 2 (tgt 2 c) ∗ rAny 3 (tgt 3 c) ∗ rAny 10 (tgt 10 c) ∗ rAny 11 (tgt 11 c))
    ∗ rAny 4 (tgt 4 c) ∗ rAny 5 (tgt 5 c) ∗ rAny 6 (tgt 6 c) ∗ rAny 7 (tgt 7 c) ∗ rAny 8 (tgt 8 c) ∗ rAny 9 (tgt 9 c)) := rfl

/-- The signal to the first partner: its blocks of the receive buffers go with it. -/
theorem signal_x1 {n : Dev nD} (hn : n = x1 c) (W : Finset (SemLoc sig × Unit)) {Q : α → sProp 𝕄} {kk : PUnit → TP F α} :
    Ctx m ρ K ⊢ iprop(owes (c : Thread nD τ) (O₀ c) W -∗ dutyTok ER (barCell (x1 c)) 0 false
      -∗ (rAny 0 c ∗ rAny 1 c ∗ rAny 2 c ∗ rAny 3 c ∗ rAny 10 c ∗ rAny 11 c)
      -∗ (owes (c : Thread nD τ) (O₁ c) W -∗ run c (kk ⟨⟩) Q)
      -∗ run c (.op (.semSignal (Dev.tc n : Thread nD τ) barS (1#32).toInt) kk) Q) := by
  subst hn
  iintro #HC HO Ht Hr Hk
  ihave #Hi := (ctx_inv m ρ K (x1 c, .inl ())) $$ HC
  ihave #Hre := (ctx_reached m ρ K (x1 c, .inl ())) $$ HC
  iapply (Rounds.wp_signal 𝒱₀ ER (ringRd m ρ) (c : Thread nD τ) none (dst := (x1 c : Thread nD τ)) (κ := K (x1 c, .inl ()))
      (d := false) (by rw [duties_bar]; exact Finset.mem_univ _) ((amount_bar m ρ (x1 c) false).trans (by decide)) () (O₁ c) rfl)
    $$ [HO Ht Hr]
  · isplitr; · iexact Hi
    isplitl [HO]; · iexact HO
    isplitl [Ht]; · iexact Ht
    isplitl [Hr]
    · rw [payload_bar, barPay_false]; iexact Hr
    · iexact Hre
  iexact Hk

/-- The signal to the second partner. -/
theorem signal_x3 {n : Dev nD} (hn : n = x3 c) (W : Finset (SemLoc sig × Unit)) {Q : α → sProp 𝕄} {kk : PUnit → TP F α} :
    Ctx m ρ K ⊢ iprop(owes (c : Thread nD τ) (O₁ c) W -∗ dutyTok ER (barCell (x3 c)) 0 true
      -∗ (rAny 4 c ∗ rAny 5 c ∗ rAny 6 c ∗ rAny 7 c ∗ rAny 8 c ∗ rAny 9 c)
      -∗ (owes (c : Thread nD τ) (owe c 0) W -∗ run c (kk ⟨⟩) Q)
      -∗ run c (.op (.semSignal (Dev.tc n : Thread nD τ) barS (1#32).toInt) kk) Q) := by
  subst hn
  iintro #HC HO Ht Hr Hk
  ihave #Hi := (ctx_inv m ρ K (x3 c, .inl ())) $$ HC
  ihave #Hre := (ctx_reached m ρ K (x3 c, .inl ())) $$ HC
  iapply (Rounds.wp_signal 𝒱₀ ER (ringRd m ρ) (c : Thread nD τ) none (dst := (x3 c : Thread nD τ)) (κ := K (x3 c, .inl ()))
      (d := true) (by rw [duties_bar]; exact Finset.mem_univ _) ((amount_bar m ρ (x3 c) true).trans (by decide)) () (owe c 0) rfl)
    $$ [HO Ht Hr]
  · isplitr; · iexact Hi
    isplitl [HO]; · iexact HO
    isplitl [Ht]; · iexact Ht
    isplitl [Hr]
    · rw [payload_bar, barPay_true]; iexact Hr
    · iexact Hre
  iexact Hk

/-- The wait for both partners: their receive blocks arrive. -/
theorem wait_bar (W : Finset (SemLoc sig × Unit)) {Q : α → sProp 𝕄} {kk : PUnit → TP F α} :
    Ctx m ρ K ⊢ iprop(owes (c : Thread nD τ) (owe c 0) W -∗ (atPos ER (barCell c) 0 ∅ 0 ∗ cred (tallyAt (barCell c) () 2))
      -∗ (owesE c 0 -∗ barPay c false -∗ barPay c true -∗ barDone c -∗ run c (kk ⟨⟩) Q)
      -∗ run c (.op (.semWait barS (2#32).toInt) kk) Q) := by
  unfold owesE barDone
  iintro #HC HO ⟨Hat, Hc⟩ Hk
  ihave #Hi := (ctx_inv m ρ K (c, .inl ())) $$ HC
  ihave #Hlev := (ctx_levs m ρ K) $$ HC
  iapply (Rounds.wp_wait_rest_token 𝒱₀ ER (ringRd m ρ) (c : Thread nD τ) none (κ := K (c, .inl ()))
      (wpE_semWait_eq 𝒱₀ (c : Thread nD τ) none Set.univ) (Set.mem_univ _) () (O := owe c 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  icases (Entails.of_eq (rest_bar m ρ c)) $$ Hpay with ⟨Hf, Ht⟩
  imod (Rounds.cell_close ER (ringRd m ρ) (Set.mem_univ (K (c, .inl ()))) (fun h => h) (R := 0 + 1) (duties_later m ρ (barCell c))) $$ [Hat] with Hz
  · isplitr; · iexact Hi
    iexact Hat
  iapply Hk $$ [HO] Hf Ht Hz
  iexists (insert (SemLoc.reg barS, ()) W); iexact HO

/-! ### Messages by name -/

/-- Handing on finished block `ks` into the place that the partner sent as its message `kp`. -/
theorem hand_on (k kp ks : Fin 24) (q : PosShare TreeShare) (hk : 12 ≤ k.val ∧ pre k = kp ∧ tgt kp = tgt k ∧ srcB k = ks) (hq : qShare k = q)
    {off : Fin 2 → ℕ} {inb : InW off} (h : off = ![64 * (wsrc ks c).val, 0])
    {n : Dev nD} (hn : n = tgt k c) {ss rs : DmaSem sig} (hss : ss = sSem k) (hrs : rs = rSem k) (p p' : ℕ) (hp : pos k = p ∧ p + 1 = p')
    {hsc : (wSl off inb : Memref sig (Dev.tc n : Thread nD τ).2.kind .vmem S64x1024 .bf16).view.ref.isScScratch = false}
    {hsrc : (wSl off inb).view.WordExact} {hdst : (wSl off inb).view.WordExact}
    {hsem : DmaTarget.Typed .vmem (.dma rs) (.remote (Dev.tc n : Thread nD τ) (wSl off inb) (.dma ss) hsc)}
    {Q : α → sProp 𝕄} {kk : PUnit → TP F α} :
    Ctx m ρ K ⊢ iprop(owesE c p -∗ sTok k c -∗ wFin m ρ ks q c -∗ wAny kp (tgt kp c)
      -∗ (owesE c p' -∗ sWait k c -∗ run c (kk ⟨⟩) Q)
      -∗ run c (.op (.enqueueDma (wSl off inb) (.remote (Dev.tc n : Thread nD τ) (wSl off inb) (.dma ss) hsc) (.dma rs) hsrc hdst hsem) kk) Q) := by
  obtain ⟨hk, rfl, ht, rfl⟩ := hk
  subst hq
  rw [ht]
  exact send_fin m ρ K c k hk (h.trans (by rw [wsrc_srcB])) hn hss hrs p p' hp

/-- Waiting for the source of an exchanged message: nothing comes back. -/
theorem wait_sent (k : Fin 24) (hk : k.val < 12) {sp : Space} {s' : Shape} {src : Memref sig .tc sp s' .bf16} {off : Fin 2 → ℕ} {inb : InW off} {ss : DmaSem sig} (hss : ss = sSem k) (p : ℕ)
    {hsrc : src.view.WordExact} {hdst : (wSl off inb).view.WordExact} {Q : α → sProp 𝕄} {kk : PUnit → TP F α} :
    Ctx m ρ K ⊢ iprop(owesE c p -∗ sWait k c -∗ (owesE c p -∗ sDone k c -∗ run c (kk ⟨⟩) Q)
      -∗ run c (.op (.waitDma2 ss src (wSl off inb) hsrc hdst) kk) Q) := by
  iintro HC HO Hw Hk
  iapply (wait_send m ρ K c k hss p) $$ HC HO Hw
  rw [sendPay_lo m ρ hk]
  iintro HO - Hd
  iapply Hk $$ HO Hd
/-- Waiting for the source of a handed-on message: the lent share comes back. -/
theorem wait_handed (k ks : Fin 24) (q : PosShare TreeShare) (hk : 12 ≤ k.val ∧ srcB k = ks) (hq : qShare k = q)
    {sp : Space} {s' : Shape} {src : Memref sig .tc sp s' .bf16} {off : Fin 2 → ℕ} {inb : InW off} {ss : DmaSem sig} (hss : ss = sSem k) (p : ℕ)
    {hsrc : src.view.WordExact} {hdst : (wSl off inb).view.WordExact} {Q : α → sProp 𝕄} {kk : PUnit → TP F α} :
    Ctx m ρ K ⊢ iprop(owesE c p -∗ sWait k c -∗ (owesE c p -∗ wFin m ρ ks q c -∗ sDone k c -∗ run c (kk ⟨⟩) Q)
      -∗ run c (.op (.waitDma2 ss src (wSl off inb) hsrc hdst) kk) Q) := by
  obtain ⟨hk, rfl⟩ := hk
  subst hq
  rw [← sendPay_hi m ρ hk]
  exact wait_send m ρ K c k hss p
/-- Waiting for a finished block. -/
theorem wait_fin (k kp : Fin 24) (hk : 12 ≤ k.val ∧ pre k = kp) {sp : Space} {s' : Shape} {src : Memref sig .tc sp s' .bf16} {dst : Memref sig .tc .vmem S64x1024 .bf16} (hN : dst.view.dmaCredit = N)
    {rs : DmaSem sig} (hrs : rs = rSem k) (p : ℕ) (hlev : ∀ k' ∈ unsent p, rlev k < rlev k')
    {hsrc : src.view.WordExact} {hdst : dst.view.WordExact} {Q : α → sProp 𝕄} {kk : PUnit → TP F α} :
    Ctx m ρ K ⊢ iprop(owesE c p -∗ rTok k c -∗ (owesE c p -∗ wFin m ρ kp fullShare c -∗ rDone k c -∗ run c (kk ⟨⟩) Q)
      -∗ run c (.op (.waitDma2 rs src dst hsrc hdst) kk) Q) := by
  obtain ⟨hk, rfl⟩ := hk
  rw [← recvPay_hi m ρ hk]
  exact wait_recv m ρ K c k hN hrs p hlev

/-- A finished block in two halves. -/
theorem fin_halves (k : Fin 24) : wFin m ρ k fullShare c ⊣⊢ iprop(wFin m ρ k fullShare.left c ∗ wFin m ρ k fullShare.right c) := by
  unfold wFin wPts
  exact pointsTo_share (PosShare.mem_left_op_right fullShare)

/-! ### Adding what was received -/

/-- The block of the output buffer that received message `k` is added to. -/
def addBlk (k : Fin 24) : Fin 24 := (![8,9,12,13,10,11,14,15, 12,13,14,15, 0,0,0,0,0,0,0,0,0,0,0,0] : Fin 24 → Fin 24) k

theorem rel_add1 (k : Fin 24) (c : Dev nD) : k.val < 8 → Rel1 c (r1dst k (tgt k c)) (wsrc (addBlk k) c) := by revert k c; decide
theorem rel_add2 (k : Fin 24) (c : Dev nD) : 8 ≤ k.val → k.val < 12 → Rel2 c (r2dst k) (wsrc (addBlk k) c) ∧ own (wsrc (addBlk k) c) = c := by
  revert k c; decide

/-- The first exchange's sum: the block and the received one loaded, the sum stored. -/
theorem add_first (k kb : Fin 24) (hk : k.val < 8 ∧ addBlk k = kb) {off : Fin 2 → ℕ} {off3 : Fin 3 → ℕ} {inb inb' inb'' : InW off} {inb3 : InR1 off3}
    (h : off = ![64 * (wsrc kb c).val, 0]) (h3 : off3 = ![(r1dst k (tgt k c)).val / 4, 64 * ((r1dst k (tgt k c)).val % 4), 0])
    {pay : (S64x1024.Idx → Elt F .bf16) → (S1x64x1024.Idx → Elt F .bf16) → S64x1024.Idx → Elt F .bf16} {hc hc'}
    (hpay : ∀ v v', pay v v' = fun y => FloatOps.addf (shapeCast S64x1024 v hc y) (shapeCast S64x1024 v' hc' y))
    {hl : wM.view.LoadsAt (wRect off inb).toLoadRect} {hl3 : r1M.view.LoadsAt (r1Rect off3 inb3).toLoadRect} {hl' : wM.view.LoadsAt (wRect off inb').toLoadRect}
    {hx : (wM.access (wRect off inb'')).Stores Finset.univ} {hm} {Q : α → sProp 𝕄} {kk : PUnit → TP F α} :
    wX m ρ kb c ⊢ iprop(recvPay m ρ k c -∗ (wW m ρ kb c -∗ rFull m ρ k c -∗ wAny k (tgt k c) -∗ run c (kk ⟨⟩) Q)
      -∗ run c (.op (.load wM (wRect off inb).toLoadRect hl) fun v => .op (.load r1M (r1Rect off3 inb3).toLoadRect hl3) fun v' =>
          .op (.load wM (wRect off inb').toLoadRect hl') fun _ => .op (.store wM (wRect off inb'') (pay v v') Finset.univ hx hm) kk) Q) := by
  obtain ⟨hk, rfl⟩ := hk
  rw [recvPay_lo m ρ (by omega), rFull_1 m ρ hk]
  unfold wX wW
  iintro Hw ⟨Hr, Ha⟩ Hk
  iapply (load_w c _ h _ _) $$ Hw; iintro Hw
  iapply (load_r1 c _ h3 _) $$ Hr; iintro Hr
  iapply (load_w c _ h _ _) $$ Hw; iintro Hw
  iapply (store_w c _ h _ (W1 m ρ c) (fun y => (congrFun (hpay _ _) y).trans (add1_val m ρ c h h3 (rel_add1 k c hk) _ _ y))) $$ Hw
  iintro Hw
  iapply Hk $$ Hw Hr Ha

/-- The second exchange's sum, on the device that finishes the block. -/
theorem add_second (k kb : Fin 24) (hk : 8 ≤ k.val ∧ k.val < 12 ∧ addBlk k = kb) {off : Fin 2 → ℕ} {off3 : Fin 3 → ℕ} {inb inb' inb'' : InW off} {inb3 : InR2 off3}
    (h : off = ![64 * (wsrc kb c).val, 0]) (h3 : off3 = ![(r2dst k).val / 2, 64 * ((r2dst k).val % 2), 0])
    {pay : (S64x1024.Idx → Elt F .bf16) → (S1x64x1024.Idx → Elt F .bf16) → S64x1024.Idx → Elt F .bf16} {hc hc'}
    (hpay : ∀ v v', pay v v' = fun y => FloatOps.addf (shapeCast S64x1024 v hc y) (shapeCast S64x1024 v' hc' y))
    {hl : wM.view.LoadsAt (wRect off inb).toLoadRect} {hl3 : r2M.view.LoadsAt (r2Rect off3 inb3).toLoadRect} {hl' : wM.view.LoadsAt (wRect off inb').toLoadRect}
    {hx : (wM.access (wRect off inb'')).Stores Finset.univ} {hm} {Q : α → sProp 𝕄} {kk : PUnit → TP F α} :
    wW m ρ kb c ⊢ iprop(recvPay m ρ k c -∗ (wFin m ρ kb fullShare.left c -∗ wFin m ρ kb fullShare.right c -∗ rFull m ρ k c -∗ wAny k (tgt k c) -∗ run c (kk ⟨⟩) Q)
      -∗ run c (.op (.load wM (wRect off inb).toLoadRect hl) fun v => .op (.load r2M (r2Rect off3 inb3).toLoadRect hl3) fun v' =>
          .op (.load wM (wRect off inb').toLoadRect hl') fun _ => .op (.store wM (wRect off inb'') (pay v v') Finset.univ hx hm) kk) Q) := by
  obtain ⟨hk, hk', rfl⟩ := hk
  rw [recvPay_lo m ρ (by omega), rFull_2 m ρ hk]
  unfold wW
  iintro Hw ⟨Hr, Ha⟩ Hk
  iapply (load_w c _ h _ _) $$ Hw; iintro Hw
  iapply (load_r2 c _ h3 _) $$ Hr; iintro Hr
  iapply (load_w c _ h _ _) $$ Hw; iintro Hw
  iapply (store_w c _ h _ (FIN m ρ) (fun y => (congrFun (hpay _ _) y).trans (add2_val m ρ c h h3 (rel_add2 k c hk hk') _ _ y))) $$ Hw
  iintro Hw
  icases (fin_halves m ρ c (addBlk k)).1 $$ [Hw] with ⟨Hl, Hr'⟩
  · unfold wFin; iexact Hw
  iapply Hk $$ Hl Hr' Hr Ha

/-- The input's block stored over a block of the output. -/
theorem put (k : Fin 24) {off : Fin 2 → ℕ} {inb inb' : InW off} (h : off = ![64 * (wsrc k c).val, 0])
    {v : S64x1024.Idx → Elt F .bf16} (hv : ∀ y : S64x1024.Idx, v y = wAt (X1 m ρ c) (64 * (wsrc k c).val + (y 0).val) (y 1))
    {hl : wM.view.LoadsAt (wRect off inb).toLoadRect} {hx : (wM.access (wRect off inb')).Stores Finset.univ} {hm} {Q : α → sProp 𝕄} {kk : PUnit → TP F α} :
    wAny k c ⊢ iprop((wX m ρ k c -∗ run c (kk ⟨⟩) Q)
      -∗ run c (.op (.load wM (wRect off inb).toLoadRect hl) fun _ => .op (.store wM (wRect off inb') v Finset.univ hx hm) kk) Q) := by
  unfold wAny wX
  iintro ⟨%f, Hw⟩ Hk
  iapply (load_w c _ h _ _) $$ Hw; iintro Hw
  iapply (store_w c _ h _ (X1 m ρ c) hv) $$ Hw
  iexact Hk

end Moves

end Cert.KernelIdeal.Ar

end
-- ==== Proof.I.Blocks.lean ====
/-
  The three buffers cut into the blocks the messages name, and put together again.
-/
module

public import proofs.«01_k».proof.Proof.I.Moves

@[expose] public section

noncomputable section

namespace Cert.KernelIdeal.Ar

open Cert.KernelIdeal.Facts₀
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KI → ℕ)

/-! ### Which messages name all the blocks -/

abbrev l4A : List (Fin 24) := [8, 9, 12, 13]
abbrev l4B : List (Fin 24) := [10, 11, 14, 15]
abbrev lW : List (Fin 24) := [0, 1, 2, 3, 4, 5, 6, 7, 8, 9, 10, 11, 12, 13, 14, 15]
abbrev lR1 : List (Fin 24) := [0, 1, 2, 3, 4, 5, 6, 7]
abbrev lR2 : List (Fin 24) := [8, 9, 10, 11]

theorem wsrc_ne (c : Dev nD) : ∀ k ∈ lW.toFinset, ∀ k' ∈ lW.toFinset, k ≠ k' → wsrc k c ≠ wsrc k' c := by revert c; decide
theorem wsrc_all (c : Dev nD) : ∀ n : Fin 16, ∃ k ∈ lW.toFinset, wsrc k c = n := by revert c; decide
theorem wsrc_4A (c : Dev nD) : ∀ n : Fin 16, n.val / 4 = (h4A c).val ↔ ∃ k ∈ l4A.toFinset, wsrc k c = n := by revert c; decide
theorem wsrc_4B (c : Dev nD) : ∀ n : Fin 16, n.val / 4 = (h4B c).val ↔ ∃ k ∈ l4B.toFinset, wsrc k c = n := by revert c; decide
theorem r1dst_ne (c : Dev nD) : ∀ k ∈ lR1.toFinset, ∀ k' ∈ lR1.toFinset, k ≠ k' → r1dst k (tgt k c) ≠ r1dst k' (tgt k' c) := by revert c; decide
theorem r1dst_all (c : Dev nD) : ∀ n : Fin 8, ∃ k ∈ lR1.toFinset, r1dst k (tgt k c) = n := by revert c; decide
theorem r2dst_ne : ∀ k ∈ lR2.toFinset, ∀ k' ∈ lR2.toFinset, k ≠ k' → r2dst k ≠ r2dst k' := by decide
theorem r2dst_all : ∀ n : Fin 4, ∃ k ∈ lR2.toFinset, r2dst k = n := by decide

/-- The blocks with keys in the image of some messages. -/
theorem keyed_biUnion {T ι κ : Type} [Fintype T] [DecidableEq T] [DecidableEq κ] (key : T → κ) (S : Finset T) (M : Finset ι) (n : ι → κ)
    (h : ∀ i, i ∈ S ↔ ∃ k ∈ M, n k = key i) : S = M.biUnion fun k => Finset.univ.filter fun i => key i = n k := by
  ext i
  rw [h i, Finset.mem_biUnion]
  exact ⟨fun ⟨k, hk, e⟩ => ⟨k, hk, Finset.mem_filter.mpr ⟨Finset.mem_univ _, e.symm⟩⟩, fun ⟨k, hk, e⟩ => ⟨k, hk, (Finset.mem_filter.mp e).2.symm⟩⟩
theorem keyed_disjoint {T κ : Type} [Fintype T] [DecidableEq T] [DecidableEq κ] (key : T → κ) {a b : κ} (h : a ≠ b) :
    Disjoint (Finset.univ.filter fun i => key i = a) (Finset.univ.filter fun i => key i = b) :=
  Finset.disjoint_filter.mpr fun i _ e e' => h (e.symm.trans e')

section Blocks
variable (c : Dev nD)

theorem sub_lW {l : List (Fin 24)} (hl : ∀ k ∈ l.toFinset, k ∈ lW.toFinset) :
    ∀ k ∈ l.toFinset, ∀ k' ∈ l.toFinset, k ≠ k' → Disjoint (wSet (wsrc k c)) (wSet (wsrc k' c)) :=
  fun k hk k' hk' e => keyed_disjoint wkey (wsrc_ne c k (hl k hk) k' (hl k' hk') e)

theorem wSet_all : (Finset.univ : Finset S1024x1024.Idx) = lW.toFinset.biUnion fun k => wSet (wsrc k c) :=
  keyed_biUnion wkey _ _ _ fun i => ⟨fun _ => wsrc_all c _, fun _ => Finset.mem_univ _⟩
theorem wSet_4A : wSet4 (h4A c) = l4A.toFinset.biUnion fun k => wSet (wsrc k c) :=
  keyed_biUnion wkey _ _ _ fun i => (Finset.mem_filter.trans (and_iff_right (Finset.mem_univ _))).trans (wsrc_4A c (wkey i))
theorem wSet_4B : wSet4 (h4B c) = l4B.toFinset.biUnion fun k => wSet (wsrc k c) :=
  keyed_biUnion wkey _ _ _ fun i => (Finset.mem_filter.trans (and_iff_right (Finset.mem_univ _))).trans (wsrc_4B c (wkey i))
theorem r1Set_all : (Finset.univ : Finset S2x256x1024.Idx) = lR1.toFinset.biUnion fun k => r1Set (r1dst k (tgt k c)) :=
  keyed_biUnion r1key _ _ _ fun i => ⟨fun _ => r1dst_all c _, fun _ => Finset.mem_univ _⟩
theorem r2Set_all : (Finset.univ : Finset S2x128x1024.Idx) = lR2.toFinset.biUnion fun k => r2Set (r2dst k) :=
  keyed_biUnion r2key _ _ _ fun i => ⟨fun _ => r2dst_all _, fun _ => Finset.mem_univ _⟩

/-- Part of the output buffer at one contents, block by block. -/
theorem w_cut {l : List (Fin 24)} (hl : ∀ k ∈ l.toFinset, k ∈ lW.toFinset) (hn : l.Nodup) {S : Finset S1024x1024.Idx}
    (hS : S = l.toFinset.biUnion fun k => wSet (wsrc k c)) (f : WC F) :
    ((wM.view.loc (c : Thread nD τ) ↦[S]{fullShare} f) : sProp 𝕄) = bigSepL l fun k => wPts c (wsrc k c) fullShare f := by
  rw [hS, pointsTo_biUnion _ _ (sub_lW c hl)]
  exact bigSep_eq_bigSepL_of_eq l rfl hn _

theorem w_any {l : List (Fin 24)} (hl : ∀ k ∈ l.toFinset, k ∈ lW.toFinset) (hn : l.Nodup) {S : Finset S1024x1024.Idx}
    (hS : S = l.toFinset.biUnion fun k => wSet (wsrc k c)) :
    (bigSepL l fun k => wAny (F := F) k c) ⊢ iprop(∃ f, (wM.view.loc (c : Thread nD τ) ↦[S]{fullShare} f)) := by
  rw [← bigSep_eq_bigSepL_of_eq l rfl hn]
  refine (BI.bigSep_exists_pi l.toFinset (fun k f => wPts (F := F) c (wsrc k c) fullShare f)).trans ?_
  iintro ⟨%fs, H⟩
  icases (pointsTo_biUnion_join (ℓ := wM.view.loc (c : Thread nD τ)) (q := fullShare) l.toFinset (fun k => wSet (wsrc k c)) fs (fs 0) (sub_lW c hl)) $$ [H] with ⟨%g, -, H⟩
  · unfold wPts; iexact H
  iexists g
  rw [hS]
  iexact H

/-- The first big block: taken whole, and given back with the input's rows. -/
theorem big_A : iprop(wAny (F := F) 8 c ∗ wAny 9 c ∗ wAny 12 c ∗ wAny 13 c) ⊢ iprop(∃ f, w4Pts c (h4A c) f) := by
  have h := w_any (F := F) c (l := l4A) (by decide) (by decide) (wSet_4A c)
  simp only [bigSepL_cons_cons, bigSepL_singleton] at h
  exact h
theorem big_B : iprop(wAny (F := F) 10 c ∗ wAny 11 c ∗ wAny 14 c ∗ wAny 15 c) ⊢ iprop(∃ f, w4Pts c (h4B c) f) := by
  have h := w_any (F := F) c (l := l4B) (by decide) (by decide) (wSet_4B c)
  simp only [bigSepL_cons_cons, bigSepL_singleton] at h
  exact h
theorem small_A : w4Pts c (h4A c) (X1 m ρ c) = iprop(wX m ρ 8 c ∗ wX m ρ 9 c ∗ wX m ρ 12 c ∗ wX m ρ 13 c) := by
  have h := w_cut (F := F) c (l := l4A) (by decide) (by decide) (wSet_4A c) (X1 m ρ c)
  simp only [bigSepL_cons_cons, bigSepL_singleton] at h
  exact h
theorem small_B : w4Pts c (h4B c) (X1 m ρ c) = iprop(wX m ρ 10 c ∗ wX m ρ 11 c ∗ wX m ρ 14 c ∗ wX m ρ 15 c) := by
  have h := w_cut (F := F) c (l := l4B) (by decide) (by decide) (wSet_4B c) (X1 m ρ c)
  simp only [bigSepL_cons_cons, bigSepL_singleton] at h
  exact h

/-- The whole output buffer, block by block, and put together when every block is finished. -/
theorem w_open (f : WC F) : ((wM.view.loc (c : Thread nD τ) ↦[Finset.univ]{fullShare} f) : sProp 𝕄)
    ⊢ iprop(wAny 0 c ∗ wAny 1 c ∗ wAny 2 c ∗ wAny 3 c ∗ wAny 4 c ∗ wAny 5 c ∗ wAny 6 c ∗ wAny 7 c
      ∗ wAny 8 c ∗ wAny 9 c ∗ wAny 10 c ∗ wAny 11 c ∗ wAny 12 c ∗ wAny 13 c ∗ wAny 14 c ∗ wAny 15 c) := by
  refine BIBase.Entails.trans ?_ (Entails.of_eq (bigSep_eq_bigSepL_of_eq lW rfl (by decide) fun k => wAny (F := F) k c))
  rw [wSet_all c, pointsTo_biUnion _ _ (sub_lW c fun _ h => h)]
  exact bigSep_mono fun k _ => by
    show wPts c (wsrc k c) fullShare f ⊢ wAny k c
    unfold wAny
    iintro H; iexists f; iexact H
theorem w_close : iprop(wFin m ρ 0 fullShare c ∗ wFin m ρ 1 fullShare c ∗ wFin m ρ 2 fullShare c ∗ wFin m ρ 3 fullShare c ∗ wFin m ρ 4 fullShare c
      ∗ wFin m ρ 5 fullShare c ∗ wFin m ρ 6 fullShare c ∗ wFin m ρ 7 fullShare c ∗ wFin m ρ 8 fullShare c ∗ wFin m ρ 9 fullShare c ∗ wFin m ρ 10 fullShare c
      ∗ wFin m ρ 11 fullShare c ∗ wFin m ρ 12 fullShare c ∗ wFin m ρ 13 fullShare c ∗ wFin m ρ 14 fullShare c ∗ wFin m ρ 15 fullShare c)
    ⊢ ((wM.view.loc (c : Thread nD τ) ↦[Finset.univ]{fullShare} FIN m ρ) : sProp 𝕄) :=
  Entails.of_eq (w_cut c (l := lW) (fun _ h => h) (by decide) (wSet_all c) (FIN m ρ)).symm

theorem r1_open (f : R1C F) : ((r1M.view.loc (c : Thread nD τ) ↦[Finset.univ]{fullShare} f) : sProp 𝕄)
    ⊢ iprop(rAny 0 c ∗ rAny 1 c ∗ rAny 2 c ∗ rAny 3 c ∗ rAny 4 c ∗ rAny 5 c ∗ rAny 6 c ∗ rAny 7 c) := by
  refine BIBase.Entails.trans ?_ (Entails.of_eq (bigSep_eq_bigSepL_of_eq lR1 rfl (by decide) fun k => rAny (F := F) k c))
  rw [r1Set_all c, pointsTo_biUnion _ _ fun k hk k' hk' e => keyed_disjoint r1key (r1dst_ne c k hk k' hk' e)]
  exact bigSep_mono fun k hk => by
    have h8 : k.val < 8 := (by decide : ∀ k ∈ lR1.toFinset, k.val < 8) k hk
    show r1Pts c (r1dst k (tgt k c)) f ⊢ rAny k c
    unfold rAny; rw [if_pos h8]
    iintro H; iexists f; iexact H
theorem r1_close : iprop(rFull m ρ 0 c ∗ rFull m ρ 1 c ∗ rFull m ρ 2 c ∗ rFull m ρ 3 c ∗ rFull m ρ 4 c ∗ rFull m ρ 5 c ∗ rFull m ρ 6 c ∗ rFull m ρ 7 c)
    ⊢ ((r1M.view.loc (c : Thread nD τ) ↦[Finset.univ]{fullShare} R1 m ρ c) : sProp 𝕄) := by
  rw [r1Set_all c, pointsTo_biUnion _ _ fun k hk k' hk' e => keyed_disjoint r1key (r1dst_ne c k hk k' hk' e)]
  exact Entails.of_eq (bigSep_eq_bigSepL_of_eq lR1 rfl (by decide) fun k => r1Pts c (r1dst k (tgt k c)) (R1 m ρ c)).symm

theorem r2_open (f : R2C F) : ((r2M.view.loc (c : Thread nD τ) ↦[Finset.univ]{fullShare} f) : sProp 𝕄)
    ⊢ iprop(rAny 8 c ∗ rAny 9 c ∗ rAny 10 c ∗ rAny 11 c) := by
  refine BIBase.Entails.trans ?_ (Entails.of_eq (bigSep_eq_bigSepL_of_eq lR2 rfl (by decide) fun k => rAny (F := F) k c))
  rw [r2Set_all, pointsTo_biUnion _ _ fun k hk k' hk' e => keyed_disjoint r2key (r2dst_ne k hk k' hk' e)]
  exact bigSep_mono fun k hk => by
    have h8 : ¬ k.val < 8 := (by decide : ∀ k ∈ lR2.toFinset, ¬ k.val < 8) k hk
    show r2Pts c (r2dst k) f ⊢ rAny k c
    unfold rAny; rw [if_neg h8]
    iintro H; iexists f; iexact H
theorem r2_close : iprop(rFull m ρ 8 c ∗ rFull m ρ 9 c ∗ rFull m ρ 10 c ∗ rFull m ρ 11 c)
    ⊢ ((r2M.view.loc (c : Thread nD τ) ↦[Finset.univ]{fullShare} R2 m ρ c) : sProp 𝕄) := by
  rw [r2Set_all, pointsTo_biUnion _ _ fun k hk k' hk' e => keyed_disjoint r2key (r2dst_ne k hk k' hk' e)]
  exact Entails.of_eq (bigSep_eq_bigSepL_of_eq lR2 rfl (by decide) fun k => r2Pts c (r2dst k) (R2 m ρ c)).symm

end Blocks

end Cert.KernelIdeal.Ar

end
-- ==== Proof.I.Body.lean ====
/-
  The kernel's body, part by part: what each part of the program takes, and what it leaves.
-/
module

public import proofs.«01_k».proof.Proof.I.Blocks

@[expose] public section

noncomputable section

namespace Cert.KernelIdeal.Ar

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KI → ℕ)
open Cert.KernelIdeal.Gen

section Parts
variable {α : Type} (c : Dev nD) {h0 : (xM : Memref sig .tc .vmem S1x1024x1024 .bf16).IsWhole} {h1 : (wM : Memref sig .tc .vmem S1024x1024 .bf16).IsWhole}
  {h2 : (r1M : Memref sig .tc .vmem S2x256x1024 .bf16).IsWhole} {h3 : (r2M : Memref sig .tc .vmem S2x128x1024 .bf16).IsWhole}

theorem part2 (W : Finset (SemLoc sig × Unit)) {a1 a2 a3 a4 a5 a6 a7 : BitVec 32} {Q : α → sProp 𝕄} {kk : _ → TP F α} :
    Ctx m ρ K ⊢ iprop(owes (c : Thread nD τ) (O₀ c) W -∗ barTok c
      -∗ (rAny 0 c ∗ rAny 1 c ∗ rAny 2 c ∗ rAny 3 c ∗ rAny 10 c ∗ rAny 11 c) -∗ (rAny 4 c ∗ rAny 5 c ∗ rAny 6 c ∗ rAny 7 c ∗ rAny 8 c ∗ rAny 9 c)
      -∗ xPts m ρ c -∗ wAny 0 c -∗ sTok 0 c
      -∗ (∀ r, owesE c 1 -∗ barDone c -∗ (rAny 1 (tgt 1 c) ∗ rAny 2 (tgt 2 c) ∗ rAny 3 (tgt 3 c) ∗ rAny 10 (tgt 10 c) ∗ rAny 11 (tgt 11 c))
        -∗ (rAny 4 (tgt 4 c) ∗ rAny 5 (tgt 5 c) ∗ rAny 6 (tgt 6 c) ∗ rAny 7 (tgt 7 c) ∗ rAny 8 (tgt 8 c) ∗ rAny 9 (tgt 9 c))
        -∗ xPts m ρ c -∗ sWait 0 c -∗ run c (kk r) Q)
      -∗ run c (k0_part2 (F := F) xM h0 wM h1 r1M h2 r2M h3 cc0_scratch2 cc0_scratch3 c a1 a2 a3 a4 a5 a6 (SemArray.scalar (sig.barrier 0 rfl)) a7 >>= kk) Q) := by
  simp only [k0_part2_eq_skeleton]; unfold k0_part2_skel
  simp only [semSignalWord, semWaitWord, Prog.lift, Prog.bind_op, Prog.bind_ret, Prog.pure_eq_ret]
  unfold barTok
  iintro #HC HO ⟨Ht1, Ht3, Hat, Hc⟩ Hr1 Hr3 Hx Hw Ht Hk
  iapply (signal_x1 m ρ K c (dev1_eq c) W) $$ HC HO Ht1 Hr1; iintro HO
  iapply (signal_x3 m ρ K c (dev2_eq c) W) $$ HC HO Ht3 Hr3; iintro HO
  iapply (wait_bar m ρ K c W) $$ HC HO [Hat Hc]
  · isplitl [Hat]; · iexact Hat
    iexact Hc
  iintro HO Hf Htt Hz
  icases (Entails.of_eq (barPay_got (F := F) c)) $$ [Hf Htt] with ⟨⟨Hr0, Hra⟩, Hrb⟩
  · isplitl [Hf]; · iexact Hf
    iexact Htt
  iapply (load_x m ρ c) $$ Hx; iintro Hx
  iapply (put m ρ c 0 (off2_eq c) (fun y => cast_val m ρ c (off1_eq c) _ y)) $$ Hw; iintro Hw
  iapply (send_r1 m ρ K c 0 (by decide) (off4_eq c) (off3_eq c) (dev3_eq c) (ss_eq 0 (by decide) _) (rs_eq 0 (by decide) _) 0 1 (by decide)) $$ HC HO Ht Hw Hr0
  iintro HO Hs
  iapply Hk $$ %_ HO Hz Hra Hrb Hx Hs

theorem part3 {a1 a2 a3 a4 a5 a6 a7 a8 : BitVec 32} {Q : α → sProp 𝕄} {kk : _ → TP F α} :
    Ctx m ρ K ⊢ iprop(xPts m ρ c -∗ wAny 4 c -∗ owesE c 1 -∗ sTok 4 c -∗ rAny 4 (tgt 4 c) -∗ wAny 1 c -∗ sTok 1 c -∗ rAny 1 (tgt 1 c)
      -∗ (sWait 4 c -∗ owesE c 3 -∗ sWait 1 c -∗ xPts m ρ c
        -∗ run c (kk (k0_pay4 (xM.view.readAt (Elt F) (xRect (k0_off13 c) (Facts₀.k0_off13_inb c)).toLoadRect (xstg m ρ c)))) Q)
      -∗ run c (k0_part3 (F := F) xM h0 wM h1 r1M h2 r2M h3 cc0_scratch2 cc0_scratch3 c a1 a2 a3 a4 a5 a6 a7 a8 >>= kk) Q) := by
  simp only [k0_part3_eq_skeleton]; unfold k0_part3_skel
  simp only [Prog.lift, Prog.bind_op, Prog.bind_ret, Prog.pure_eq_ret]
  iintro #HC Hx Hw4 HO Ht4 Hr4 Hw1 Ht1 Hr1 Hk
  iapply (load_x m ρ c) $$ Hx; iintro Hx
  iapply (put m ρ c 4 (off6_eq c) (fun y => cast_val m ρ c (off5_eq c) _ y)) $$ Hw4; iintro Hw4
  iapply (send_r1 m ρ K c 4 (by decide) (off8_eq c) (off7_eq c) (dev4_eq c) (ss_eq 4 (by decide) _) (rs_eq 4 (by decide) _) 1 2 (by decide)) $$ HC HO Ht4 Hw4 Hr4; iintro HO Hs4
  iapply (load_x m ρ c) $$ Hx; iintro Hx
  iapply (put m ρ c 1 (off10_eq c) (fun y => cast_val m ρ c (off9_eq c) _ y)) $$ Hw1; iintro Hw1
  iapply (send_r1 m ρ K c 1 (by decide) (off12_eq c) (off11_eq c) (dev5_eq c) (ss_eq 1 (by decide) _) (rs_eq 1 (by decide) _) 2 3 (by decide)) $$ HC HO Ht1 Hw1 Hr1; iintro HO Hs1
  iapply (load_x m ρ c) $$ Hx; iintro Hx
  iapply Hk $$ Hs4 HO Hs1 Hx

theorem part4 {a1 a2 a3 a4 a5 a6 a7 : BitVec 32} {v : S64x1024.Idx → Elt F .bf16} (hv : ∀ y : S64x1024.Idx, v y = wAt (X1 m ρ c) (64 * (wsrc 5 c).val + (y 0).val) (y 1)) {Q : α → sProp 𝕄} {kk : _ → TP F α} :
    Ctx m ρ K ⊢ iprop(wAny 5 c -∗ owesE c 3 -∗ sTok 5 c -∗ rAny 5 (tgt 5 c) -∗ xPts m ρ c -∗ wAny 2 c -∗ sTok 2 c -∗ rAny 2 (tgt 2 c) -∗ wAny 6 c
      -∗ (sWait 5 c -∗ owesE c 5 -∗ sWait 2 c -∗ xPts m ρ c -∗ wX m ρ 6 c
        -∗ run c (kk ⟨⟩) Q)
      -∗ run c (k0_part4 (F := F) xM h0 wM h1 r1M h2 r2M h3 cc0_scratch2 cc0_scratch3 c a1 a2 a3 a4 a5 a6 a7 v >>= kk) Q) := by
  simp only [k0_part4_eq_skeleton]; unfold k0_part4_skel
  simp only [Prog.lift, Prog.bind_op, Prog.bind_ret, Prog.pure_eq_ret]
  iintro #HC Hw5 HO Ht5 Hr5 Hx Hw2 Ht2 Hr2 Hw6 Hk
  iapply (put m ρ c 5 (off14_eq c) hv) $$ Hw5; iintro Hw5
  iapply (send_r1 m ρ K c 5 (by decide) (off16_eq c) (off15_eq c) (dev6_eq c) (ss_eq 5 (by decide) _) (rs_eq 5 (by decide) _) 3 4 (by decide)) $$ HC HO Ht5 Hw5 Hr5; iintro HO Hs5
  iapply (load_x m ρ c) $$ Hx; iintro Hx
  iapply (put m ρ c 2 (off18_eq c) (fun y => cast_val m ρ c (off17_eq c) _ y)) $$ Hw2; iintro Hw2
  iapply (send_r1 m ρ K c 2 (by decide) (off20_eq c) (off19_eq c) (dev7_eq c) (ss_eq 2 (by decide) _) (rs_eq 2 (by decide) _) 4 5 (by decide)) $$ HC HO Ht2 Hw2 Hr2; iintro HO Hs2
  iapply (load_x m ρ c) $$ Hx; iintro Hx
  iapply (put m ρ c 6 (off22_eq c) (fun y => cast_val m ρ c (off21_eq c) _ y)) $$ Hw6; iintro Hw6
  iapply Hk $$ Hs5 HO Hs2 Hx Hw6

theorem part5 {a1 a2 a3 a4 a5 a6 : BitVec 32} {Q : α → sProp 𝕄} {kk : _ → TP F α} :
    Ctx m ρ K ⊢ iprop(owesE c 5 -∗ sTok 6 c -∗ wX m ρ 6 c -∗ rAny 6 (tgt 6 c) -∗ xPts m ρ c -∗ wAny 3 c -∗ sTok 3 c -∗ rAny 3 (tgt 3 c) -∗ wAny 7 c
      -∗ (sWait 6 c -∗ owesE c 7 -∗ sWait 3 c -∗ xPts m ρ c -∗ wX m ρ 7 c
        -∗ run c (kk 1#32) Q)
      -∗ run c (k0_part5 (F := F) xM h0 wM h1 r1M h2 r2M h3 cc0_scratch2 cc0_scratch3 c a1 a2 a3 a4 a5 a6 >>= kk) Q) := by
  simp only [k0_part5_eq_skeleton]; unfold k0_part5_skel
  simp only [Prog.lift, Prog.bind_op, Prog.bind_ret, Prog.pure_eq_ret]
  iintro #HC HO Ht6 Hw6 Hr6 Hx Hw3 Ht3 Hr3 Hw7 Hk
  iapply (send_r1 m ρ K c 6 (by decide) (off24_eq c) (off23_eq c) (dev8_eq c) (ss_eq 6 (by decide) _) (rs_eq 6 (by decide) _) 5 6 (by decide)) $$ HC HO Ht6 Hw6 Hr6; iintro HO Hs6
  iapply (load_x m ρ c) $$ Hx; iintro Hx
  iapply (put m ρ c 3 (off26_eq c) (fun y => cast_val m ρ c (off25_eq c) _ y)) $$ Hw3; iintro Hw3
  iapply (send_r1 m ρ K c 3 (by decide) (off28_eq c) (off27_eq c) (dev9_eq c) (ss_eq 3 (by decide) _) (rs_eq 3 (by decide) _) 6 7 (by decide)) $$ HC HO Ht3 Hw3 Hr3; iintro HO Hs3
  iapply (load_x m ρ c) $$ Hx; iintro Hx
  iapply (put m ρ c 7 (off30_eq c) (fun y => cast_val m ρ c (off29_eq c) _ y)) $$ Hw7; iintro Hw7
  iapply Hk $$ Hs6 HO Hs3 Hx Hw7

theorem part6 {a1 a2 a3 a4 a5 a6 a7 : BitVec 32} {Q : α → sProp 𝕄} {kk : _ → TP F α} :
    Ctx m ρ K ⊢ iprop(owesE c 7 -∗ sTok 7 c -∗ wX m ρ 7 c -∗ rAny 7 (tgt 7 c) -∗ xPts m ρ c -∗ wAny 8 c -∗ wAny 9 c -∗ wAny 12 c -∗ wAny 13 c -∗ wAny 10 c -∗ wAny 11 c -∗ wAny 14 c -∗ wAny 15 c -∗ sWait 0 c
      -∗ (∀ r, sWait 7 c -∗ wX m ρ 8 c -∗ wX m ρ 9 c -∗ wX m ρ 12 c -∗ wX m ρ 13 c -∗ xPts m ρ c -∗ wX m ρ 10 c -∗ wX m ρ 11 c -∗ wX m ρ 14 c -∗ wX m ρ 15 c -∗ owesE c 8 -∗ sDone 0 c
        -∗ run c (kk r) Q)
      -∗ run c (k0_part6 (F := F) xM h0 wM h1 r1M h2 r2M h3 cc0_scratch2 cc0_scratch3 c a1 a2 a3 a4 a5 a6 a7 >>= kk) Q) := by
  simp only [k0_part6_eq_skeleton]; unfold k0_part6_skel
  simp only [Prog.lift, Prog.bind_op, Prog.bind_ret, Prog.pure_eq_ret]
  iintro #HC HO Ht7 Hw7 Hr7 Hx Hw8 Hw9 Hw12 Hw13 Hw10 Hw11 Hw14 Hw15 Hs0 Hk
  iapply (send_r1 m ρ K c 7 (by decide) (off32_eq c) (off31_eq c) (dev10_eq c) (ss_eq 7 (by decide) _) (rs_eq 7 (by decide) _) 7 8 (by decide)) $$ HC HO Ht7 Hw7 Hr7; iintro HO Hs7
  iapply (load_x m ρ c) $$ Hx; iintro Hx
  icases (big_A c) $$ [Hw8 Hw9 Hw12 Hw13] with ⟨%fA, H4⟩
  · isplitl [Hw8]; · iexact Hw8
    isplitl [Hw9]; · iexact Hw9
    isplitl [Hw12]; · iexact Hw12
    iexact Hw13
  iapply (load_w4 c _ (off34_eq c) _) $$ H4; iintro H4
  iapply (store_w4 c _ (off34_eq c) _ (X1 m ρ c) (fun y => cast_val4 m ρ c (off33_eq c) _ y)) $$ H4; iintro H4
  icases (Entails.of_eq (small_A m ρ c)) $$ H4 with ⟨Hw8, Hw9, Hw12, Hw13⟩
  iapply (load_x m ρ c) $$ Hx; iintro Hx
  icases (big_B c) $$ [Hw10 Hw11 Hw14 Hw15] with ⟨%fB, H4⟩
  · isplitl [Hw10]; · iexact Hw10
    isplitl [Hw11]; · iexact Hw11
    isplitl [Hw14]; · iexact Hw14
    iexact Hw15
  iapply (load_w4 c _ (off36_eq c) _) $$ H4; iintro H4
  iapply (store_w4 c _ (off36_eq c) _ (X1 m ρ c) (fun y => cast_val4 m ρ c (off35_eq c) _ y)) $$ H4; iintro H4
  icases (Entails.of_eq (small_B m ρ c)) $$ H4 with ⟨Hw10, Hw11, Hw14, Hw15⟩
  iapply (wait_sent m ρ K c 0 (by decide) (ss_eq 0 (by decide) _) 8) $$ HC HO Hs0; iintro HO HS0
  iapply Hk $$ %_ Hs7 Hw8 Hw9 Hw12 Hw13 Hx Hw10 Hw11 Hw14 Hw15 HO HS0

theorem part7 {a1 a2 a3 a4 : BitVec 32} {Q : α → sProp 𝕄} {kk : _ → TP F α} :
    Ctx m ρ K ⊢ iprop(owesE c 8 -∗ rTok 0 c -∗ wX m ρ 8 c -∗ sTok 8 c -∗ rAny 8 (tgt 8 c)
      -∗ (rDone 0 c -∗ rFull m ρ 0 c -∗ wAny 0 (tgt 0 c) -∗ owesE c 9 -∗ sWait 8 c
        -∗ run c (kk ⟨⟩) Q)
      -∗ run c (k0_part7 (F := F) xM h0 wM h1 r1M h2 r2M h3 cc0_scratch2 cc0_scratch3 c a1 a2 a3 a4 >>= kk) Q) := by
  simp only [k0_part7_eq_skeleton]; unfold k0_part7_skel
  simp only [Prog.lift, Prog.bind_op, Prog.bind_ret, Prog.pure_eq_ret]
  iintro #HC HO Hv0 Hw8 Ht8 Hr8 Hk
  iapply (wait_recv m ρ K c 0 (credit_r1 _ _) (rs_eq 0 (by decide) _) 8 (by decide)) $$ HC HO Hv0; iintro HO HP0 HD0
  iapply (add_first m ρ c 0 8 (by decide) (off37_eq0 c) (off38_eq0 c) (fun _ _ => rfl)) $$ Hw8 HP0; iintro Hw8 HB0 HA0
  iapply (send_r2 m ρ K c 8 (by decide) (by decide) (off39_eq0 c) rfl (dev11_eq c) (ss_eq 8 (by decide) _) (rs_eq 8 (by decide) _) 8 9 (by decide)) $$ HC HO Ht8 Hw8 Hr8; iintro HO Hs8
  iapply Hk $$ HD0 HB0 HA0 HO Hs8

theorem part8 {a1 a2 a3 a4 : BitVec 32} {Q : α → sProp 𝕄} {kk : _ → TP F α} :
    Ctx m ρ K ⊢ iprop(owesE c 9 -∗ sWait 4 c -∗ rTok 4 c -∗ wX m ρ 10 c -∗ sTok 10 c -∗ rAny 10 (tgt 10 c)
      -∗ (sDone 4 c -∗ rDone 4 c -∗ rFull m ρ 4 c -∗ wAny 4 (tgt 4 c) -∗ owesE c 10 -∗ sWait 10 c
        -∗ run c (kk ⟨⟩) Q)
      -∗ run c (k0_part8 (F := F) xM h0 wM h1 r1M h2 r2M h3 cc0_scratch2 cc0_scratch3 c a1 a2 a3 a4 >>= kk) Q) := by
  simp only [k0_part8_eq_skeleton]; unfold k0_part8_skel
  simp only [Prog.lift, Prog.bind_op, Prog.bind_ret, Prog.pure_eq_ret]
  iintro #HC HO Hs4 Hv4 Hw10 Ht10 Hr10 Hk
  iapply (wait_sent m ρ K c 4 (by decide) (ss_eq 4 (by decide) _) 9) $$ HC HO Hs4; iintro HO HS4
  iapply (wait_recv m ρ K c 4 (credit_r1 _ _) (rs_eq 4 (by decide) _) 9 (by decide)) $$ HC HO Hv4; iintro HO HP4 HD4
  iapply (add_first m ρ c 4 10 (by decide) (off40_eq0 c) (off41_eq0 c) (fun _ _ => rfl)) $$ Hw10 HP4; iintro Hw10 HB4 HA4
  iapply (send_r2 m ρ K c 10 (by decide) (by decide) (off42_eq0 c) rfl (dev12_eq c) (ss_eq 10 (by decide) _) (rs_eq 10 (by decide) _) 9 10 (by decide)) $$ HC HO Ht10 Hw10 Hr10; iintro HO Hs10
  iapply Hk $$ HS4 HD4 HB4 HA4 HO Hs10

theorem part9 {a1 a2 a3 a4 : BitVec 32} {Q : α → sProp 𝕄} {kk : _ → TP F α} :
    Ctx m ρ K ⊢ iprop(owesE c 10 -∗ sWait 1 c -∗ rTok 1 c -∗ wX m ρ 9 c
      -∗ (sDone 1 c -∗ owesE c 10 -∗ rDone 1 c -∗ wW m ρ 9 c -∗ rFull m ρ 1 c -∗ wAny 1 (tgt 1 c)
        -∗ run c (kk ⟨⟩) Q)
      -∗ run c (k0_part9 (F := F) xM h0 wM h1 r1M h2 r2M h3 cc0_scratch2 cc0_scratch3 c a1 a2 a3 a4 >>= kk) Q) := by
  simp only [k0_part9_eq_skeleton]; unfold k0_part9_skel
  simp only [Prog.lift, Prog.bind_op, Prog.bind_ret, Prog.pure_eq_ret]
  iintro #HC HO Hs1 Hv1 Hw9 Hk
  iapply (wait_sent m ρ K c 1 (by decide) (ss_eq 1 (by decide) _) 10) $$ HC HO Hs1; iintro HO HS1
  iapply (wait_recv m ρ K c 1 (credit_r1 _ _) (rs_eq 1 (by decide) _) 10 (by decide)) $$ HC HO Hv1; iintro HO HP1 HD1
  iapply (add_first m ρ c 1 9 (by decide) (off37_eq1 c) (off38_eq1 c) (fun _ _ => rfl)) $$ Hw9 HP1; iintro Hw9 HB1 HA1
  iapply Hk $$ HS1 HO HD1 Hw9 HB1 HA1

theorem part10 {a1 a2 a3 a4 : BitVec 32} {Q : α → sProp 𝕄} {kk : _ → TP F α} :
    Ctx m ρ K ⊢ iprop(owesE c 10 -∗ sTok 9 c -∗ wW m ρ 9 c -∗ rAny 9 (tgt 9 c) -∗ sWait 5 c -∗ rTok 5 c -∗ wX m ρ 11 c
      -∗ (sWait 9 c -∗ sDone 5 c -∗ owesE c 11 -∗ rDone 5 c -∗ wW m ρ 11 c -∗ rFull m ρ 5 c -∗ wAny 5 (tgt 5 c)
        -∗ run c (kk ⟨⟩) Q)
      -∗ run c (k0_part10 (F := F) xM h0 wM h1 r1M h2 r2M h3 cc0_scratch2 cc0_scratch3 c a1 a2 a3 a4 >>= kk) Q) := by
  simp only [k0_part10_eq_skeleton]; unfold k0_part10_skel
  simp only [Prog.lift, Prog.bind_op, Prog.bind_ret, Prog.pure_eq_ret]
  iintro #HC HO Ht9 Hw9 Hr9 Hs5 Hv5 Hw11 Hk
  iapply (send_r2 m ρ K c 9 (by decide) (by decide) (off39_eq1 c) rfl (dev13_eq c) (ss_eq 9 (by decide) _) (rs_eq 9 (by decide) _) 10 11 (by decide)) $$ HC HO Ht9 Hw9 Hr9; iintro HO Hs9
  iapply (wait_sent m ρ K c 5 (by decide) (ss_eq 5 (by decide) _) 11) $$ HC HO Hs5; iintro HO HS5
  iapply (wait_recv m ρ K c 5 (credit_r1 _ _) (rs_eq 5 (by decide) _) 11 (by decide)) $$ HC HO Hv5; iintro HO HP5 HD5
  iapply (add_first m ρ c 5 11 (by decide) (off40_eq1 c) (off41_eq1 c) (fun _ _ => rfl)) $$ Hw11 HP5; iintro Hw11 HB5 HA5
  iapply Hk $$ Hs9 HS5 HO HD5 Hw11 HB5 HA5

theorem part11 {a1 a2 a3 : BitVec 32} {Q : α → sProp 𝕄} {kk : _ → TP F α} :
    Ctx m ρ K ⊢ iprop(owesE c 11 -∗ sTok 11 c -∗ wW m ρ 11 c -∗ rAny 11 (tgt 11 c) -∗ sWait 2 c -∗ rTok 2 c -∗ wX m ρ 12 c
      -∗ (sWait 11 c -∗ sDone 2 c -∗ owesE c 12 -∗ rDone 2 c -∗ wW m ρ 12 c -∗ rFull m ρ 2 c -∗ wAny 2 (tgt 2 c)
        -∗ run c (kk ⟨⟩) Q)
      -∗ run c (k0_part11 (F := F) xM h0 wM h1 r1M h2 r2M h3 cc0_scratch2 cc0_scratch3 c a1 a2 a3 >>= kk) Q) := by
  simp only [k0_part11_eq_skeleton]; unfold k0_part11_skel
  simp only [Prog.lift, Prog.bind_op, Prog.bind_ret, Prog.pure_eq_ret]
  iintro #HC HO Ht11 Hw11 Hr11 Hs2 Hv2 Hw12 Hk
  iapply (send_r2 m ρ K c 11 (by decide) (by decide) (off42_eq1 c) rfl (dev14_eq c) (ss_eq 11 (by decide) _) (rs_eq 11 (by decide) _) 11 12 (by decide)) $$ HC HO Ht11 Hw11 Hr11; iintro HO Hs11
  iapply (wait_sent m ρ K c 2 (by decide) (ss_eq 2 (by decide) _) 12) $$ HC HO Hs2; iintro HO HS2
  iapply (wait_recv m ρ K c 2 (credit_r1 _ _) (rs_eq 2 (by decide) _) 12 (by decide)) $$ HC HO Hv2; iintro HO HP2 HD2
  iapply (add_first m ρ c 2 12 (by decide) (off43_eq0 c) (off44_eq0 c) (fun _ _ => rfl)) $$ Hw12 HP2; iintro Hw12 HB2 HA2
  iapply Hk $$ Hs11 HS2 HO HD2 Hw12 HB2 HA2

theorem part12 {a1 a2 a3 : BitVec 32} {Q : α → sProp 𝕄} {kk : _ → TP F α} :
    Ctx m ρ K ⊢ iprop(owesE c 12 -∗ sWait 6 c -∗ rTok 6 c -∗ wX m ρ 14 c -∗ sWait 3 c
      -∗ (sDone 6 c -∗ rDone 6 c -∗ wW m ρ 14 c -∗ rFull m ρ 6 c -∗ wAny 6 (tgt 6 c) -∗ owesE c 12 -∗ sDone 3 c
        -∗ run c (kk ⟨⟩) Q)
      -∗ run c (k0_part12 (F := F) xM h0 wM h1 r1M h2 r2M h3 cc0_scratch2 cc0_scratch3 c a1 a2 a3 >>= kk) Q) := by
  simp only [k0_part12_eq_skeleton]; unfold k0_part12_skel
  simp only [Prog.lift, Prog.bind_op, Prog.bind_ret, Prog.pure_eq_ret]
  iintro #HC HO Hs6 Hv6 Hw14 Hs3 Hk
  iapply (wait_sent m ρ K c 6 (by decide) (ss_eq 6 (by decide) _) 12) $$ HC HO Hs6; iintro HO HS6
  iapply (wait_recv m ρ K c 6 (credit_r1 _ _) (rs_eq 6 (by decide) _) 12 (by decide)) $$ HC HO Hv6; iintro HO HP6 HD6
  iapply (add_first m ρ c 6 14 (by decide) (off45_eq0 c) (off46_eq0 c) (fun _ _ => rfl)) $$ Hw14 HP6; iintro Hw14 HB6 HA6
  iapply (wait_sent m ρ K c 3 (by decide) (ss_eq 3 (by decide) _) 12) $$ HC HO Hs3; iintro HO HS3
  iapply Hk $$ HS6 HD6 Hw14 HB6 HA6 HO HS3

theorem part13 {a1 a2 a3 a4 : BitVec 32} {Q : α → sProp 𝕄} {kk : _ → TP F α} :
    Ctx m ρ K ⊢ iprop(owesE c 12 -∗ rTok 3 c -∗ wX m ρ 13 c -∗ sWait 7 c -∗ rTok 7 c
      -∗ (rDone 3 c -∗ wW m ρ 13 c -∗ rFull m ρ 3 c -∗ wAny 3 (tgt 3 c) -∗ sDone 7 c -∗ owesE c 12 -∗ recvPay m ρ 7 c -∗ rDone 7 c
        -∗ run c (kk 64#32) Q)
      -∗ run c (k0_part13 (F := F) xM h0 wM h1 r1M h2 r2M h3 cc0_scratch2 cc0_scratch3 c a1 a2 a3 a4 >>= kk) Q) := by
  simp only [k0_part13_eq_skeleton]; unfold k0_part13_skel
  simp only [Prog.lift, Prog.bind_op, Prog.bind_ret, Prog.pure_eq_ret]
  iintro #HC HO Hv3 Hw13 Hs7 Hv7 Hk
  iapply (wait_recv m ρ K c 3 (credit_r1 _ _) (rs_eq 3 (by decide) _) 12 (by decide)) $$ HC HO Hv3; iintro HO HP3 HD3
  iapply (add_first m ρ c 3 13 (by decide) (off43_eq1 c) (off44_eq1 c) (fun _ _ => rfl)) $$ Hw13 HP3; iintro Hw13 HB3 HA3
  iapply (wait_sent m ρ K c 7 (by decide) (ss_eq 7 (by decide) _) 12) $$ HC HO Hs7; iintro HO HS7
  iapply (wait_recv m ρ K c 7 (credit_r1 _ _) (rs_eq 7 (by decide) _) 12 (by decide)) $$ HC HO Hv7; iintro HO HP7 HD7
  iapply Hk $$ HD3 Hw13 HB3 HA3 HS7 HO HP7 HD7

theorem part14 {a1 a2 a3 a4 a5 : BitVec 32} {Q : α → sProp 𝕄} {kk : _ → TP F α} :
    Ctx m ρ K ⊢ iprop(wX m ρ 15 c -∗ recvPay m ρ 7 c -∗ owesE c 12 -∗ sWait 8 c -∗ rTok 8 c -∗ wW m ρ 12 c
      -∗ (wW m ρ 15 c -∗ rFull m ρ 7 c -∗ wAny 7 (tgt 7 c) -∗ sDone 8 c -∗ owesE c 12 -∗ rDone 8 c -∗ wW m ρ 12 c -∗ rFull m ρ 8 c -∗ wAny 8 (tgt 8 c)
        -∗ run c (kk (k0_pay19 (wM.view.readAt (Elt F) (wRect (k0_off43 c 0#32) (Facts₀.k0_off43_inb c 0)).toLoadRect (W1 m ρ c))
          (r2M.view.readAt (Elt F) (r2Rect ![0, 0, 0] Facts₀.inb_S2x128x1024_S1x64x1024_0_0_0).toLoadRect (R2 m ρ c)))) Q)
      -∗ run c (k0_part14 (F := F) xM h0 wM h1 r1M h2 r2M h3 cc0_scratch2 cc0_scratch3 c a1 a2 a3 a4 a5 >>= kk) Q) := by
  simp only [k0_part14_eq_skeleton]; unfold k0_part14_skel
  simp only [Prog.lift, Prog.bind_op, Prog.bind_ret, Prog.pure_eq_ret]
  iintro #HC Hw15 HP7 HO Hs8 Hv8 Hw12 Hk
  iapply (add_first m ρ c 7 15 (by decide) (off45_eq1 c) (off46_eq1 c) (fun _ _ => rfl)) $$ Hw15 HP7; iintro Hw15 HB7 HA7
  iapply (wait_sent m ρ K c 8 (by decide) (ss_eq 8 (by decide) _) 12) $$ HC HO Hs8; iintro HO HS8
  iapply (wait_recv m ρ K c 8 (credit_r2 _ _) (rs_eq 8 (by decide) _) 12 (by decide)) $$ HC HO Hv8; iintro HO HP8 HD8
  icases (Entails.of_eq (recvPay_lo m ρ (k := 8) (by decide) c)) $$ HP8 with ⟨HB8, HA8⟩
  ihave HB8 := (Entails.of_eq (rFull_2 m ρ (k := 8) (by decide) c)) $$ HB8
  unfold wW
  iapply (load_w c _ (off43_eq0 c) _ _) $$ Hw12; iintro Hw12
  iapply (load_r2 c (r2dst 8) rfl _) $$ HB8; iintro HB8
  ihave HB8 := (Entails.of_eq (rFull_2 m ρ (k := 8) (by decide) c).symm) $$ HB8
  iapply Hk $$ Hw15 HB7 HA7 HS8 HO HD8 Hw12 HB8 HA8

theorem part15 {a1 a2 a3 : BitVec 32} {v : S64x1024.Idx → Elt F .bf16} (hv : ∀ y : S64x1024.Idx, v y = wAt (FIN m ρ) (64 * (wsrc 12 c).val + (y 0).val) (y 1)) {Q : α → sProp 𝕄} {kk : _ → TP F α} :
    Ctx m ρ K ⊢ iprop(wW m ρ 12 c -∗ owesE c 12 -∗ sTok 12 c -∗ wAny 8 (tgt 8 c) -∗ sTok 16 c -∗ wAny 2 (tgt 2 c) -∗ sWait 10 c
      -∗ (sWait 12 c -∗ sWait 16 c -∗ owesE c 14 -∗ sDone 10 c
        -∗ run c (kk ⟨⟩) Q)
      -∗ run c (k0_part15 (F := F) xM h0 wM h1 r1M h2 r2M h3 cc0_scratch2 cc0_scratch3 c a1 a2 a3 v >>= kk) Q) := by
  simp only [k0_part15_eq_skeleton]; unfold k0_part15_skel
  simp only [Prog.lift, Prog.bind_op, Prog.bind_ret, Prog.pure_eq_ret]
  iintro #HC Hw12 HO Ht12 HA8 Ht16 HA2 Hs10 Hk
  unfold wW
  iapply (load_w c _ (off43_eq0 c) _ _) $$ Hw12; iintro Hw12
  iapply (store_w c _ (off43_eq0 c) _ (FIN m ρ) hv) $$ Hw12; iintro Hw12
  icases (fin_halves m ρ c 12).1 $$ [Hw12] with ⟨HFL12, HFR12⟩
  · unfold wFin; iexact Hw12
  iapply (hand_on m ρ K c 12 8 12 fullShare.left (by decide) rfl (off47_eq0 c) (dev15_eq c) (ss_eq 12 (by decide) _) (rs_eq 12 (by decide) _) 12 13 (by decide)) $$ HC HO Ht12 HFL12 HA8; iintro HO Hs12
  iapply (hand_on m ρ K c 16 2 12 fullShare.right (by decide) rfl (off47_eq0 c) (dev16_eq c) (ss_eq 16 (by decide) _) (rs_eq 16 (by decide) _) 13 14 (by decide)) $$ HC HO Ht16 HFR12 HA2; iintro HO Hs16
  iapply (wait_sent m ρ K c 10 (by decide) (ss_eq 10 (by decide) _) 14) $$ HC HO Hs10; iintro HO HS10
  iapply Hk $$ Hs12 Hs16 HO HS10

theorem part16 {a1 a2 a3 : BitVec 32} {Q : α → sProp 𝕄} {kk : _ → TP F α} :
    Ctx m ρ K ⊢ iprop(owesE c 14 -∗ rTok 10 c -∗ wW m ρ 14 c -∗ sTok 14 c
      -∗ (rDone 10 c -∗ wFin m ρ 14 fullShare.right c -∗ rFull m ρ 10 c -∗ owesE c 15 -∗ sWait 14 c
        -∗ run c (kk ⟨⟩) Q)
      -∗ run c (k0_part16 (F := F) xM h0 wM h1 r1M h2 r2M h3 cc0_scratch2 cc0_scratch3 c a1 a2 a3 >>= kk) Q) := by
  simp only [k0_part16_eq_skeleton]; unfold k0_part16_skel
  simp only [Prog.lift, Prog.bind_op, Prog.bind_ret, Prog.pure_eq_ret]
  iintro #HC HO Hv10 Hw14 Ht14 Hk
  iapply (wait_recv m ρ K c 10 (credit_r2 _ _) (rs_eq 10 (by decide) _) 14 (by decide)) $$ HC HO Hv10; iintro HO HP10 HD10
  iapply (add_second m ρ c 10 14 (by decide) (off45_eq0 c) rfl (fun _ _ => rfl)) $$ Hw14 HP10; iintro HFL14 HFR14 HB10 HA10
  iapply (hand_on m ρ K c 14 10 14 fullShare.left (by decide) rfl (off48_eq0 c) (dev17_eq c) (ss_eq 14 (by decide) _) (rs_eq 14 (by decide) _) 14 15 (by decide)) $$ HC HO Ht14 HFL14 HA10; iintro HO Hs14
  iapply Hk $$ HD10 HFR14 HB10 HO Hs14

theorem part17 {a1 a2 : BitVec 32} {Q : α → sProp 𝕄} {kk : _ → TP F α} :
    Ctx m ρ K ⊢ iprop(owesE c 15 -∗ sTok 20 c -∗ wFin m ρ 14 fullShare.right c -∗ wAny 6 (tgt 6 c) -∗ sWait 9 c -∗ rTok 9 c -∗ wW m ρ 13 c
      -∗ (sWait 20 c -∗ sDone 9 c -∗ owesE c 16 -∗ rDone 9 c -∗ wFin m ρ 13 fullShare.left c -∗ wFin m ρ 13 fullShare.right c -∗ rFull m ρ 9 c -∗ wAny 9 (tgt 9 c)
        -∗ run c (kk ⟨⟩) Q)
      -∗ run c (k0_part17 (F := F) xM h0 wM h1 r1M h2 r2M h3 cc0_scratch2 cc0_scratch3 c a1 a2 >>= kk) Q) := by
  simp only [k0_part17_eq_skeleton]; unfold k0_part17_skel
  simp only [Prog.lift, Prog.bind_op, Prog.bind_ret, Prog.pure_eq_ret]
  iintro #HC HO Ht20 HFR14 HA6 Hs9 Hv9 Hw13 Hk
  iapply (hand_on m ρ K c 20 6 14 fullShare.right (by decide) rfl (off48_eq0 c) (dev18_eq c) (ss_eq 20 (by decide) _) (rs_eq 20 (by decide) _) 15 16 (by decide)) $$ HC HO Ht20 HFR14 HA6; iintro HO Hs20
  iapply (wait_sent m ρ K c 9 (by decide) (ss_eq 9 (by decide) _) 16) $$ HC HO Hs9; iintro HO HS9
  iapply (wait_recv m ρ K c 9 (credit_r2 _ _) (rs_eq 9 (by decide) _) 16 (by decide)) $$ HC HO Hv9; iintro HO HP9 HD9
  iapply (add_second m ρ c 9 13 (by decide) (off43_eq1 c) rfl (fun _ _ => rfl)) $$ Hw13 HP9; iintro HFL13 HFR13 HB9 HA9
  iapply Hk $$ Hs20 HS9 HO HD9 HFL13 HFR13 HB9 HA9

theorem part18 {a1 a2 a3 a4 : BitVec 32} {Q : α → sProp 𝕄} {kk : _ → TP F α} :
    Ctx m ρ K ⊢ iprop(owesE c 16 -∗ sTok 13 c -∗ wFin m ρ 13 fullShare.left c -∗ wAny 9 (tgt 9 c) -∗ sTok 17 c -∗ wFin m ρ 13 fullShare.right c -∗ wAny 3 (tgt 3 c) -∗ sWait 11 c
      -∗ (sWait 13 c -∗ sWait 17 c -∗ owesE c 18 -∗ sDone 11 c
        -∗ run c (kk ⟨⟩) Q)
      -∗ run c (k0_part18 (F := F) xM h0 wM h1 r1M h2 r2M h3 cc0_scratch2 cc0_scratch3 c a1 a2 a3 a4 >>= kk) Q) := by
  simp only [k0_part18_eq_skeleton]; unfold k0_part18_skel
  simp only [Prog.lift, Prog.bind_op, Prog.bind_ret, Prog.pure_eq_ret]
  iintro #HC HO Ht13 HFL13 HA9 Ht17 HFR13 HA3 Hs11 Hk
  iapply (hand_on m ρ K c 13 9 13 fullShare.left (by decide) rfl (off47_eq1 c) (dev19_eq c) (ss_eq 13 (by decide) _) (rs_eq 13 (by decide) _) 16 17 (by decide)) $$ HC HO Ht13 HFL13 HA9; iintro HO Hs13
  iapply (hand_on m ρ K c 17 3 13 fullShare.right (by decide) rfl (off47_eq1 c) (dev20_eq c) (ss_eq 17 (by decide) _) (rs_eq 17 (by decide) _) 17 18 (by decide)) $$ HC HO Ht17 HFR13 HA3; iintro HO Hs17
  iapply (wait_sent m ρ K c 11 (by decide) (ss_eq 11 (by decide) _) 18) $$ HC HO Hs11; iintro HO HS11
  iapply Hk $$ Hs13 Hs17 HO HS11

theorem part19 {a1 a2 a3 : BitVec 32} {Q : α → sProp 𝕄} {kk : _ → TP F α} :
    Ctx m ρ K ⊢ iprop(owesE c 18 -∗ rTok 11 c -∗ wW m ρ 15 c -∗ sTok 15 c -∗ sTok 21 c -∗ wAny 7 (tgt 7 c)
      -∗ (rDone 11 c -∗ rFull m ρ 11 c -∗ sWait 15 c -∗ owesE c 20 -∗ sWait 21 c
        -∗ run c (kk ⟨⟩) Q)
      -∗ run c (k0_part19 (F := F) xM h0 wM h1 r1M h2 r2M h3 cc0_scratch2 cc0_scratch3 c a1 a2 a3 >>= kk) Q) := by
  simp only [k0_part19_eq_skeleton]; unfold k0_part19_skel
  simp only [Prog.lift, Prog.bind_op, Prog.bind_ret, Prog.pure_eq_ret]
  iintro #HC HO Hv11 Hw15 Ht15 Ht21 HA7 Hk
  iapply (wait_recv m ρ K c 11 (credit_r2 _ _) (rs_eq 11 (by decide) _) 18 (by decide)) $$ HC HO Hv11; iintro HO HP11 HD11
  iapply (add_second m ρ c 11 15 (by decide) (off45_eq1 c) rfl (fun _ _ => rfl)) $$ Hw15 HP11; iintro HFL15 HFR15 HB11 HA11
  iapply (hand_on m ρ K c 15 11 15 fullShare.left (by decide) rfl (off48_eq1 c) (dev21_eq c) (ss_eq 15 (by decide) _) (rs_eq 15 (by decide) _) 18 19 (by decide)) $$ HC HO Ht15 HFL15 HA11; iintro HO Hs15
  iapply (hand_on m ρ K c 21 7 15 fullShare.right (by decide) rfl (off48_eq1 c) (dev22_eq c) (ss_eq 21 (by decide) _) (rs_eq 21 (by decide) _) 19 20 (by decide)) $$ HC HO Ht21 HFR15 HA7; iintro HO Hs21
  iapply Hk $$ HD11 HB11 Hs15 HO Hs21

theorem part20 {a1 a2 a3 a4 : BitVec 32} {Q : α → sProp 𝕄} {kk : _ → TP F α} :
    Ctx m ρ K ⊢ iprop(owesE c 20 -∗ sWait 12 c -∗ rTok 12 c -∗ sTok 18 c -∗ wAny 0 (tgt 0 c) -∗ sWait 14 c
      -∗ (wFin m ρ 12 fullShare.left c -∗ sDone 12 c -∗ rDone 12 c -∗ sWait 18 c -∗ owesE c 21 -∗ wFin m ρ 14 fullShare.left c -∗ sDone 14 c
        -∗ run c (kk ⟨⟩) Q)
      -∗ run c (k0_part20 (F := F) xM h0 wM h1 r1M h2 r2M h3 cc0_scratch2 cc0_scratch3 c a1 a2 a3 a4 >>= kk) Q) := by
  simp only [k0_part20_eq_skeleton]; unfold k0_part20_skel
  simp only [Prog.lift, Prog.bind_op, Prog.bind_ret, Prog.pure_eq_ret]
  iintro #HC HO Hs12 Hv12 Ht18 HA0 Hs14 Hk
  iapply (wait_handed m ρ K c 12 12 fullShare.left (by decide) rfl (ss_eq 12 (by decide) _) 20) $$ HC HO Hs12; iintro HO HFL12 HS12
  iapply (wait_fin m ρ K c 12 8 (by decide) (credit_w _ _) (rs_eq 12 (by decide) _) 20 (by decide)) $$ HC HO Hv12; iintro HO HFF8 HD12
  iapply (hand_on m ρ K c 18 0 8 fullShare (by decide) rfl (off39_eq0 c) (dev23_eq c) (ss_eq 18 (by decide) _) (rs_eq 18 (by decide) _) 20 21 (by decide)) $$ HC HO Ht18 HFF8 HA0; iintro HO Hs18
  iapply (wait_handed m ρ K c 14 14 fullShare.left (by decide) rfl (ss_eq 14 (by decide) _) 21) $$ HC HO Hs14; iintro HO HFL14 HS14
  iapply Hk $$ HFL12 HS12 HD12 Hs18 HO HFL14 HS14

theorem part21 {a1 a2 a3 a4 a5 : BitVec 32} {Q : α → sProp 𝕄} {kk : _ → TP F α} :
    Ctx m ρ K ⊢ iprop(owesE c 21 -∗ rTok 14 c -∗ sTok 22 c -∗ wAny 4 (tgt 4 c) -∗ sWait 13 c -∗ rTok 13 c
      -∗ (rDone 14 c -∗ sWait 22 c -∗ wFin m ρ 13 fullShare.left c -∗ sDone 13 c -∗ owesE c 22 -∗ wFin m ρ 9 fullShare c -∗ rDone 13 c
        -∗ run c (kk ⟨⟩) Q)
      -∗ run c (k0_part21 (F := F) xM h0 wM h1 r1M h2 r2M h3 cc0_scratch2 cc0_scratch3 c a1 a2 a3 a4 a5 >>= kk) Q) := by
  simp only [k0_part21_eq_skeleton]; unfold k0_part21_skel
  simp only [Prog.lift, Prog.bind_op, Prog.bind_ret, Prog.pure_eq_ret]
  iintro #HC HO Hv14 Ht22 HA4 Hs13 Hv13 Hk
  iapply (wait_fin m ρ K c 14 10 (by decide) (credit_w _ _) (rs_eq 14 (by decide) _) 21 (by decide)) $$ HC HO Hv14; iintro HO HFF10 HD14
  iapply (hand_on m ρ K c 22 4 10 fullShare (by decide) rfl (off42_eq0 c) (dev24_eq c) (ss_eq 22 (by decide) _) (rs_eq 22 (by decide) _) 21 22 (by decide)) $$ HC HO Ht22 HFF10 HA4; iintro HO Hs22
  iapply (wait_handed m ρ K c 13 13 fullShare.left (by decide) rfl (ss_eq 13 (by decide) _) 22) $$ HC HO Hs13; iintro HO HFL13 HS13
  iapply (wait_fin m ρ K c 13 9 (by decide) (credit_w _ _) (rs_eq 13 (by decide) _) 22 (by decide)) $$ HC HO Hv13; iintro HO HFF9 HD13
  iapply Hk $$ HD14 Hs22 HFL13 HS13 HO HFF9 HD13

theorem part22 {a1 a2 a3 : BitVec 32} {Q : α → sProp 𝕄} {kk : _ → TP F α} :
    Ctx m ρ K ⊢ iprop(owesE c 22 -∗ sTok 19 c -∗ wFin m ρ 9 fullShare c -∗ wAny 1 (tgt 1 c) -∗ sWait 15 c -∗ rTok 15 c -∗ sTok 23 c -∗ wAny 5 (tgt 5 c) -∗ sWait 16 c
      -∗ (sWait 19 c -∗ wFin m ρ 15 fullShare.left c -∗ sDone 15 c -∗ rDone 15 c -∗ sWait 23 c -∗ owesE c 24 -∗ wFin m ρ 12 fullShare.right c -∗ sDone 16 c
        -∗ run c (kk 1#32) Q)
      -∗ run c (k0_part22 (F := F) xM h0 wM h1 r1M h2 r2M h3 cc0_scratch2 cc0_scratch3 c a1 a2 a3 >>= kk) Q) := by
  simp only [k0_part22_eq_skeleton]; unfold k0_part22_skel
  simp only [Prog.lift, Prog.bind_op, Prog.bind_ret, Prog.pure_eq_ret]
  iintro #HC HO Ht19 HFF9 HA1 Hs15 Hv15 Ht23 HA5 Hs16 Hk
  iapply (hand_on m ρ K c 19 1 9 fullShare (by decide) rfl (off39_eq1 c) (dev25_eq c) (ss_eq 19 (by decide) _) (rs_eq 19 (by decide) _) 22 23 (by decide)) $$ HC HO Ht19 HFF9 HA1; iintro HO Hs19
  iapply (wait_handed m ρ K c 15 15 fullShare.left (by decide) rfl (ss_eq 15 (by decide) _) 23) $$ HC HO Hs15; iintro HO HFL15 HS15
  iapply (wait_fin m ρ K c 15 11 (by decide) (credit_w _ _) (rs_eq 15 (by decide) _) 23 (by decide)) $$ HC HO Hv15; iintro HO HFF11 HD15
  iapply (hand_on m ρ K c 23 5 11 fullShare (by decide) rfl (off42_eq1 c) (dev26_eq c) (ss_eq 23 (by decide) _) (rs_eq 23 (by decide) _) 23 24 (by decide)) $$ HC HO Ht23 HFF11 HA5; iintro HO Hs23
  iapply (wait_handed m ρ K c 16 12 fullShare.right (by decide) rfl (ss_eq 16 (by decide) _) 24) $$ HC HO Hs16; iintro HO HFR12 HS16
  iapply Hk $$ Hs19 HFL15 HS15 HD15 Hs23 HO HFR12 HS16

theorem part23 {a1 a2 a3 : BitVec 32} {Q : α → sProp 𝕄} {kk : _ → TP F α} :
    Ctx m ρ K ⊢ iprop(owesE c 24 -∗ rTok 16 c -∗ sWait 20 c -∗ rTok 20 c -∗ sWait 17 c -∗ rTok 17 c
      -∗ (wFin m ρ 2 fullShare c -∗ rDone 16 c -∗ wFin m ρ 14 fullShare.right c -∗ sDone 20 c -∗ wFin m ρ 6 fullShare c -∗ rDone 20 c -∗ wFin m ρ 13 fullShare.right c -∗ sDone 17 c -∗ owesE c 24 -∗ wFin m ρ 3 fullShare c -∗ rDone 17 c
        -∗ run c (kk ⟨⟩) Q)
      -∗ run c (k0_part23 (F := F) xM h0 wM h1 r1M h2 r2M h3 cc0_scratch2 cc0_scratch3 c a1 a2 a3 >>= kk) Q) := by
  simp only [k0_part23_eq_skeleton]; unfold k0_part23_skel
  simp only [Prog.lift, Prog.bind_op, Prog.bind_ret, Prog.pure_eq_ret]
  iintro #HC HO Hv16 Hs20 Hv20 Hs17 Hv17 Hk
  iapply (wait_fin m ρ K c 16 2 (by decide) (credit_w _ _) (rs_eq 16 (by decide) _) 24 (by decide)) $$ HC HO Hv16; iintro HO HFF2 HD16
  iapply (wait_handed m ρ K c 20 14 fullShare.right (by decide) rfl (ss_eq 20 (by decide) _) 24) $$ HC HO Hs20; iintro HO HFR14 HS20
  iapply (wait_fin m ρ K c 20 6 (by decide) (credit_w _ _) (rs_eq 20 (by decide) _) 24 (by decide)) $$ HC HO Hv20; iintro HO HFF6 HD20
  iapply (wait_handed m ρ K c 17 13 fullShare.right (by decide) rfl (ss_eq 17 (by decide) _) 24) $$ HC HO Hs17; iintro HO HFR13 HS17
  iapply (wait_fin m ρ K c 17 3 (by decide) (credit_w _ _) (rs_eq 17 (by decide) _) 24 (by decide)) $$ HC HO Hv17; iintro HO HFF3 HD17
  iapply Hk $$ HFF2 HD16 HFR14 HS20 HFF6 HD20 HFR13 HS17 HO HFF3 HD17

theorem part24 {a1 a2 : BitVec 32} {Q : α → sProp 𝕄} {kk : _ → TP F α} :
    Ctx m ρ K ⊢ iprop(owesE c 24 -∗ sWait 21 c -∗ rTok 21 c -∗ sWait 18 c -∗ rTok 18 c -∗ sWait 22 c
      -∗ (wFin m ρ 15 fullShare.right c -∗ sDone 21 c -∗ wFin m ρ 7 fullShare c -∗ rDone 21 c -∗ wFin m ρ 8 fullShare c -∗ sDone 18 c -∗ wFin m ρ 0 fullShare c -∗ rDone 18 c -∗ owesE c 24 -∗ wFin m ρ 10 fullShare c -∗ sDone 22 c
        -∗ run c (kk ⟨⟩) Q)
      -∗ run c (k0_part24 (F := F) xM h0 wM h1 r1M h2 r2M h3 cc0_scratch2 cc0_scratch3 c a1 a2 >>= kk) Q) := by
  simp only [k0_part24_eq_skeleton]; unfold k0_part24_skel
  simp only [Prog.lift, Prog.bind_op, Prog.bind_ret, Prog.pure_eq_ret]
  iintro #HC HO Hs21 Hv21 Hs18 Hv18 Hs22 Hk
  iapply (wait_handed m ρ K c 21 15 fullShare.right (by decide) rfl (ss_eq 21 (by decide) _) 24) $$ HC HO Hs21; iintro HO HFR15 HS21
  iapply (wait_fin m ρ K c 21 7 (by decide) (credit_w _ _) (rs_eq 21 (by decide) _) 24 (by decide)) $$ HC HO Hv21; iintro HO HFF7 HD21
  iapply (wait_handed m ρ K c 18 8 fullShare (by decide) rfl (ss_eq 18 (by decide) _) 24) $$ HC HO Hs18; iintro HO HFF8 HS18
  iapply (wait_fin m ρ K c 18 0 (by decide) (credit_w _ _) (rs_eq 18 (by decide) _) 24 (by decide)) $$ HC HO Hv18; iintro HO HFF0 HD18
  iapply (wait_handed m ρ K c 22 10 fullShare (by decide) rfl (ss_eq 22 (by decide) _) 24) $$ HC HO Hs22; iintro HO HFF10 HS22
  iapply Hk $$ HFR15 HS21 HFF7 HD21 HFF8 HS18 HFF0 HD18 HO HFF10 HS22

end Parts

end Cert.KernelIdeal.Ar

end
-- ==== Proof.I.Whole.lean ====
/-
  The whole body: the parts one after the other, from what a device starts with to what it ends with.
-/
module

public import proofs.«01_k».proof.Proof.I.Body

@[expose] public section

noncomputable section

namespace Cert.KernelIdeal.Ar

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × KI → ℕ)
open Cert.KernelIdeal.Gen

/-- What a device holds for all its messages: their tokens, and in the end their cells at zero. -/
def toks (c : Dev nD) : sProp 𝕄 := iprop(bigSep Finset.univ (fun k => sTok (F := F) k c) ∗ bigSep Finset.univ (fun k => rTok (F := F) k c))
def dones (c : Dev nD) : sProp 𝕄 := iprop(bigSep Finset.univ (fun k => sDone (F := F) k c) ∗ bigSep Finset.univ (fun k => rDone (F := F) k c))

abbrev l24 : List (Fin 24) := [0, 1, 2, 3, 4, 5, 6, 7, 8, 9, 10, 11, 12, 13, 14, 15, 16, 17, 18, 19, 20, 21, 22, 23]
theorem list24 (Φ : Fin 24 → sProp 𝕄) : bigSep Finset.univ Φ = bigSepL l24 Φ := bigSep_univ_eq_bigSepL l24 (by decide) (by decide) Φ
theorem open24 (Φ : Fin 24 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23) := list24 Φ

section Whole
variable (c : Dev nD) {h0 : (xM : Memref sig .tc .vmem S1x1024x1024 .bf16).IsWhole} {h1 : (wM : Memref sig .tc .vmem S1024x1024 .bf16).IsWhole}
  {h2 : (r1M : Memref sig .tc .vmem S2x256x1024 .bf16).IsWhole} {h3 : (r2M : Memref sig .tc .vmem S2x128x1024 .bf16).IsWhole}
theorem run_ret {α : Type} {x : α} {Q : α → sProp 𝕄} : Q x ⊢ run c (Prog.ret x) Q := by
  show Q x ⊢ wp frame _ _ (Prog.ret x) Q
  rw [wp_ret]; iintro H; imodintro; iexact H

/-- The body of device `c`: from the barrier's tokens, the messages' tokens and the four buffers to the finished output. -/
theorem body_run (W : Finset (SemLoc sig × Unit)) (f : WC F) (f1 : R1C F) (f2 : R2C F) {Q : PUnit → sProp 𝕄} :
    Ctx m ρ K ⊢ iprop(owes (c : Thread nD τ) (O₀ c) W -∗ barTok c -∗ toks c -∗ xPts m ρ c
      -∗ (wM.view.loc (c : Thread nD τ) ↦[Finset.univ]{fullShare} f)
      -∗ (r1M.view.loc (c : Thread nD τ) ↦[Finset.univ]{fullShare} f1) -∗ (r2M.view.loc (c : Thread nD τ) ↦[Finset.univ]{fullShare} f2)
      -∗ (owesE c 24 -∗ barDone c -∗ dones c -∗ xPts m ρ c
        -∗ (wM.view.loc (c : Thread nD τ) ↦[Finset.univ]{fullShare} FIN m ρ)
        -∗ (r1M.view.loc (c : Thread nD τ) ↦[Finset.univ]{fullShare} R1 m ρ c) -∗ (r2M.view.loc (c : Thread nD τ) ↦[Finset.univ]{fullShare} R2 m ρ c)
        -∗ Q ⟨⟩)
      -∗ run c (cc0_body (F := F) xM h0 wM h1 r1M h2 r2M h3 cc0_scratch2 cc0_scratch3) Q) := by
  simp only [cc0_body_eq_skeleton]; unfold cc0_body_skel
  simp only [k0_part25_eq_skeleton]; unfold k0_part25_skel
  simp only [k0_part1_eq_skeleton]; unfold k0_part1_skel
  simp only [Prog.lift, Prog.bind_op, Prog.bind_ret, Prog.pure_eq_ret, Prog.bind_assoc, wp_deviceId]
  unfold toks
  simp only [open24]
  iintro #HC HO Hbar ⟨Hts, Hvs⟩ Hx Hw Hb1 Hb2 Hk
  icases Hts with ⟨Ht0, Ht1, Ht2, Ht3, Ht4, Ht5, Ht6, Ht7, Ht8, Ht9, Ht10, Ht11, Ht12, Ht13, Ht14, Ht15, Ht16, Ht17, Ht18, Ht19, Ht20, Ht21, Ht22, Ht23⟩
  icases Hvs with ⟨Hv0, Hv1, Hv2, Hv3, Hv4, Hv5, Hv6, Hv7, Hv8, Hv9, Hv10, Hv11, Hv12, Hv13, Hv14, Hv15, Hv16, Hv17, Hv18, Hv19, Hv20, Hv21, Hv22, Hv23⟩
  icases (w_open c f) $$ Hw with ⟨Hw0, Hw1, Hw2, Hw3, Hw4, Hw5, Hw6, Hw7, Hw8, Hw9, Hw10, Hw11, Hw12, Hw13, Hw14, Hw15⟩
  icases (r1_open c f1) $$ Hb1 with ⟨Hr0, Hr1, Hr2, Hr3, Hr4, Hr5, Hr6, Hr7⟩
  icases (r2_open c f2) $$ Hb2 with ⟨Hr8, Hr9, Hr10, Hr11⟩
  iapply (part2 m ρ K c W) $$ HC HO Hbar [Hr0 Hr1 Hr2 Hr3 Hr10 Hr11] [Hr4 Hr5 Hr6 Hr7 Hr8 Hr9] Hx Hw0 Ht0
  · isplitl [Hr0]; · iexact Hr0
    isplitl [Hr1]; · iexact Hr1
    isplitl [Hr2]; · iexact Hr2
    isplitl [Hr3]; · iexact Hr3
    isplitl [Hr10]; · iexact Hr10
    iexact Hr11
  · isplitl [Hr4]; · iexact Hr4
    isplitl [Hr5]; · iexact Hr5
    isplitl [Hr6]; · iexact Hr6
    isplitl [Hr7]; · iexact Hr7
    isplitl [Hr8]; · iexact Hr8
    iexact Hr9
  iintro %r2 HO Hz ⟨Hr1, Hr2, Hr3, Hr10, Hr11⟩ ⟨Hr4, Hr5, Hr6, Hr7, Hr8, Hr9⟩ Hx Hs0
  iapply (part3 m ρ K c) $$ HC Hx Hw4 HO Ht4 Hr4 Hw1 Ht1 Hr1
  iintro Hs4 HO Hs1 Hx
  iapply (part4 m ρ K c (fun y => cast_val m ρ c (off13_eq c) _ y)) $$ HC Hw5 HO Ht5 Hr5 Hx Hw2 Ht2 Hr2 Hw6
  iintro Hs5 HO Hs2 Hx Hw6
  iapply (part5 m ρ K c) $$ HC HO Ht6 Hw6 Hr6 Hx Hw3 Ht3 Hr3 Hw7
  iintro Hs6 HO Hs3 Hx Hw7
  iapply (part6 m ρ K c) $$ HC HO Ht7 Hw7 Hr7 Hx Hw8 Hw9 Hw12 Hw13 Hw10 Hw11 Hw14 Hw15 Hs0
  iintro %r6 Hs7 Hw8 Hw9 Hw12 Hw13 Hx Hw10 Hw11 Hw14 Hw15 HO HS0
  iapply (part7 m ρ K c) $$ HC HO Hv0 Hw8 Ht8 Hr8
  iintro HD0 HB0 HA0 HO Hs8
  iapply (part8 m ρ K c) $$ HC HO Hs4 Hv4 Hw10 Ht10 Hr10
  iintro HS4 HD4 HB4 HA4 HO Hs10
  iapply (part9 m ρ K c) $$ HC HO Hs1 Hv1 Hw9
  iintro HS1 HO HD1 Hw9 HB1 HA1
  iapply (part10 m ρ K c) $$ HC HO Ht9 Hw9 Hr9 Hs5 Hv5 Hw11
  iintro Hs9 HS5 HO HD5 Hw11 HB5 HA5
  iapply (part11 m ρ K c) $$ HC HO Ht11 Hw11 Hr11 Hs2 Hv2 Hw12
  iintro Hs11 HS2 HO HD2 Hw12 HB2 HA2
  iapply (part12 m ρ K c) $$ HC HO Hs6 Hv6 Hw14 Hs3
  iintro HS6 HD6 Hw14 HB6 HA6 HO HS3
  iapply (part13 m ρ K c) $$ HC HO Hv3 Hw13 Hs7 Hv7
  iintro HD3 Hw13 HB3 HA3 HS7 HO HP7 HD7
  iapply (part14 m ρ K c) $$ HC Hw15 HP7 HO Hs8 Hv8 Hw12
  iintro Hw15 HB7 HA7 HS8 HO HD8 Hw12 HB8 HA8
  iapply (part15 m ρ K c (fun y => add2_val m ρ c (off43_eq0 c) rfl (rel_add2 8 c (by decide) (by decide)) _ _ y)) $$ HC Hw12 HO Ht12 HA8 Ht16 HA2 Hs10
  iintro Hs12 Hs16 HO HS10
  iapply (part16 m ρ K c) $$ HC HO Hv10 Hw14 Ht14
  iintro HD10 HFR14 HB10 HO Hs14
  iapply (part17 m ρ K c) $$ HC HO Ht20 HFR14 HA6 Hs9 Hv9 Hw13
  iintro Hs20 HS9 HO HD9 HFL13 HFR13 HB9 HA9
  iapply (part18 m ρ K c) $$ HC HO Ht13 HFL13 HA9 Ht17 HFR13 HA3 Hs11
  iintro Hs13 Hs17 HO HS11
  iapply (part19 m ρ K c) $$ HC HO Hv11 Hw15 Ht15 Ht21 HA7
  iintro HD11 HB11 Hs15 HO Hs21
  iapply (part20 m ρ K c) $$ HC HO Hs12 Hv12 Ht18 HA0 Hs14
  iintro HFL12 HS12 HD12 Hs18 HO HFL14 HS14
  iapply (part21 m ρ K c) $$ HC HO Hv14 Ht22 HA4 Hs13 Hv13
  iintro HD14 Hs22 HFL13 HS13 HO HFF9 HD13
  iapply (part22 m ρ K c) $$ HC HO Ht19 HFF9 HA1 Hs15 Hv15 Ht23 HA5 Hs16
  iintro Hs19 HFL15 HS15 HD15 Hs23 HO HFR12 HS16
  iapply (part23 m ρ K c) $$ HC HO Hv16 Hs20 Hv20 Hs17 Hv17
  iintro HFF2 HD16 HFR14 HS20 HFF6 HD20 HFR13 HS17 HO HFF3 HD17
  iapply (part24 m ρ K c) $$ HC HO Hs21 Hv21 Hs18 Hv18 Hs22
  iintro HFR15 HS21 HFF7 HD21 HFF8 HS18 HFF0 HD18 HO HFF10 HS22
  iapply (wait_fin m ρ K c 22 4 (by decide) (credit_w _ _) (rs_eq 22 (by decide) _) 24 (by decide)) $$ HC HO Hv22; iintro HO HFF4 HD22
  iapply (wait_handed m ρ K c 19 9 fullShare (by decide) rfl (ss_eq 19 (by decide) _) 24) $$ HC HO Hs19; iintro HO HFF9 HS19
  iapply (wait_fin m ρ K c 19 1 (by decide) (credit_w _ _) (rs_eq 19 (by decide) _) 24 (by decide)) $$ HC HO Hv19; iintro HO HFF1 HD19
  iapply (wait_handed m ρ K c 23 11 fullShare (by decide) rfl (ss_eq 23 (by decide) _) 24) $$ HC HO Hs23; iintro HO HFF11 HS23
  iapply (wait_fin m ρ K c 23 5 (by decide) (credit_w _ _) (rs_eq 23 (by decide) _) 24 (by decide)) $$ HC HO Hv23; iintro HO HFF5 HD23
  iapply (run_ret c)
  ihave HFF12 := (fin_halves m ρ c 12).2 $$ [HFL12 HFR12]
  · isplitl [HFL12]; · iexact HFL12
    iexact HFR12
  ihave HFF13 := (fin_halves m ρ c 13).2 $$ [HFL13 HFR13]
  · isplitl [HFL13]; · iexact HFL13
    iexact HFR13
  ihave HFF14 := (fin_halves m ρ c 14).2 $$ [HFL14 HFR14]
  · isplitl [HFL14]; · iexact HFL14
    iexact HFR14
  ihave HFF15 := (fin_halves m ρ c 15).2 $$ [HFL15 HFR15]
  · isplitl [HFL15]; · iexact HFL15
    iexact HFR15
  iapply Hk $$ HO Hz [HS0 HS1 HS2 HS3 HS4 HS5 HS6 HS7 HS8 HS9 HS10 HS11 HS12 HS13 HS14 HS15 HS16 HS17 HS18 HS19 HS20 HS21 HS22 HS23 HD0 HD1 HD2 HD3 HD4 HD5 HD6 HD7 HD8 HD9 HD10 HD11 HD12 HD13 HD14 HD15 HD16 HD17 HD18 HD19 HD20 HD21 HD22 HD23] Hx [HFF0 HFF1 HFF2 HFF3 HFF4 HFF5 HFF6 HFF7 HFF8 HFF9 HFF10 HFF11 HFF12 HFF13 HFF14 HFF15] [HB0 HB1 HB2 HB3 HB4 HB5 HB6 HB7] [HB8 HB9 HB10 HB11]
  · unfold dones; rw [open24, open24]
    isplitl [HS0 HS1 HS2 HS3 HS4 HS5 HS6 HS7 HS8 HS9 HS10 HS11 HS12 HS13 HS14 HS15 HS16 HS17 HS18 HS19 HS20 HS21 HS22 HS23]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      isplitl [HS15]; · iexact HS15
      isplitl [HS16]; · iexact HS16
      isplitl [HS17]; · iexact HS17
      isplitl [HS18]; · iexact HS18
      isplitl [HS19]; · iexact HS19
      isplitl [HS20]; · iexact HS20
      isplitl [HS21]; · iexact HS21
      isplitl [HS22]; · iexact HS22
      iexact HS23
    · isplitl [HD0]; · iexact HD0
      isplitl [HD1]; · iexact HD1
      isplitl [HD2]; · iexact HD2
      isplitl [HD3]; · iexact HD3
      isplitl [HD4]; · iexact HD4
      isplitl [HD5]; · iexact HD5
      isplitl [HD6]; · iexact HD6
      isplitl [HD7]; · iexact HD7
      isplitl [HD8]; · iexact HD8
      isplitl [HD9]; · iexact HD9
      isplitl [HD10]; · iexact HD10
      isplitl [HD11]; · iexact HD11
      isplitl [HD12]; · iexact HD12
      isplitl [HD13]; · iexact HD13
      isplitl [HD14]; · iexact HD14
      isplitl [HD15]; · iexact HD15
      isplitl [HD16]; · iexact HD16
      isplitl [HD17]; · iexact HD17
      isplitl [HD18]; · iexact HD18
      isplitl [HD19]; · iexact HD19
      isplitl [HD20]; · iexact HD20
      isplitl [HD21]; · iexact HD21
      isplitl [HD22]; · iexact HD22
      iexact HD23
  · iapply (w_close m ρ c)
    isplitl [HFF0]; · iexact HFF0
    isplitl [HFF1]; · iexact HFF1
    isplitl [HFF2]; · iexact HFF2
    isplitl [HFF3]; · iexact HFF3
    isplitl [HFF4]; · iexact HFF4
    isplitl [HFF5]; · iexact HFF5
    isplitl [HFF6]; · iexact HFF6
    isplitl [HFF7]; · iexact HFF7
    isplitl [HFF8]; · iexact HFF8
    isplitl [HFF9]; · iexact HFF9
    isplitl [HFF10]; · iexact HFF10
    isplitl [HFF11]; · iexact HFF11
    isplitl [HFF12]; · iexact HFF12
    isplitl [HFF13]; · iexact HFF13
    isplitl [HFF14]; · iexact HFF14
    iexact HFF15
  · iapply (r1_close m ρ c)
    isplitl [HB0]; · iexact HB0
    isplitl [HB1]; · iexact HB1
    isplitl [HB2]; · iexact HB2
    isplitl [HB3]; · iexact HB3
    isplitl [HB4]; · iexact HB4
    isplitl [HB5]; · iexact HB5
    isplitl [HB6]; · iexact HB6
    iexact HB7
  · iapply (r2_close m ρ c)
    isplitl [HB8]; · iexact HB8
    isplitl [HB9]; · iexact HB9
    isplitl [HB10]; · iexact HB10
    iexact HB11

end Whole

end Cert.KernelIdeal.Ar

end
-- ==== Proof.I.Launch.lean ====
/-
  The launch: what the four devices are dealt at the start, and what every run ends with.
-/
module

public import proofs.«01_k».proof.Proof.I.Whole
public import proofs.«01_k».proof.Proof.Gen.KernelIdeal.Points
public import Idealize.ShloMosaic.Lib.Pipeline.CollectiveSegs
public import Idealize.ShloMosaic.Lib.Tactic

@[expose] public section

noncomputable section

namespace Cert.KernelIdeal.Ar

open Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The one point of the pipeline -/

theorem t_eq (t : Fin cfg0.N) : t = t0_0 := fin_N0 t

/-- What device `c` starts with: everybody's records, the barrier's tokens and the messages' tokens. -/
def start (c : Dev nD) : sProp 𝕄 := iprop((∃ K, Ctx m ρ K) ∗ barTok c ∗ toks c)

/-- A scratch buffer, whole, with some contents. -/
abbrev some1 (c : Dev nD) : sProp 𝕄 := iprop(∃ f : R1C F, r1M.view.loc (c : Thread nD τ) ↦[Finset.univ]{fullShare} f)
abbrev some2 (c : Dev nD) : sProp 𝕄 := iprop(∃ f : R2C F, r2M.view.loc (c : Thread nD τ) ↦[Finset.univ]{fullShare} f)

def Φ₀ (c : Dev nD) : sProp 𝕄 := iprop(start m ρ c ∗ some1 c ∗ some2 c)
def Φ₁ (c : Dev nD) : sProp 𝕄 := iprop(barDone c ∗ dones c ∗ some1 c ∗ some2 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => FIN m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer, whole, with contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def pre0 (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def post0 (c : Dev nD) : sProp 𝕄 :=
  iprop(Φ₁ c ∗ (dats m ρ 0 c).owesAt () t0_0.succ ∗ stg c cc0_stg0_0 (xstg m ρ c) ∗ stg c cc0_stg1_0 (FIN m ρ))

theorem body_sound (c : Dev nD) {h0 : (xM : Memref sig .tc .vmem S1x1024x1024 .bf16).IsWhole} {h1 : (wM : Memref sig .tc .vmem S1024x1024 .bf16).IsWhole}
    {h2 : (r1M : Memref sig .tc .vmem S2x256x1024 .bf16).IsWhole} {h3 : (r2M : Memref sig .tc .vmem S2x128x1024 .bf16).IsWhole} :
    pre0 m ρ c ⊢ run c (cc0_body (F := F) xM h0 wM h1 r1M h2 r2M h3 cc0_scratch2 cc0_scratch3) (fun _ => post0 m ρ c) := by
  unfold pre0 Φ₀ start
  iintro ⟨⟨⟨⟨%K, #HC⟩, Hbar, Htok⟩, ⟨%f1, H1⟩, ⟨%f2, H2⟩⟩, Ho, ⟨%d0, %g0, %hg0, Hx⟩, ⟨%d1, %g1, %hg1, Hw⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply (body_run m ρ K c W g1 f1 f2) $$ HC HO Hbar Htok [Hx] [Hw] H1 H2
  · unfold xPts; iexact Hx
  · iexact Hw
  iintro HO Hz Hd Hx Hw H1 H2
  unfold post0 Φ₁ Dat.owesAt Pipeline.owesWithin owesE
  rw [owe_last, show (dats m ρ 0 c).owed t0_0.succ = 0 from rfl]
  icases HO with ⟨%W', HO⟩
  isplitl [Hz Hd H1 H2]
  · isplitl [Hz]; · iexact Hz
    isplitl [Hd]; · iexact Hd
    isplitl [H1]
    · iexists _; iexact H1
    · iexists _; iexact H2
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  iexact Hw

theorem body_at (t : Fin cfg0.N) (s : (w : Fin 2) → Fin (win0 w).nbuf) : defs₀ (F := F) Proc.tc 0 (t, s)
    = cc0_body xM (Memref.isWhole_whole _) wM (Memref.isWhole_whole _) r1M (Memref.isWhole_whole _) r2M (Memref.isWhole_whole _) cc0_scratch2 cc0_scratch3 := rfl
theorem body_obligation (c : Dev nD) : BodyObligation (dats (F := F) m ρ 0 c) (defs₀ (F := F)) 𝒱₀ () Set.univ := fun t => by
  rw [t_eq t]
  rw [bigSep_W0, bigSep_W0]
  simp only [owns_stg]
  rw [show defs₀ (F := F) Proc.tc 0 (t0_0, cfg0.slots t0_0) = _ from body_at _ _]
  rw [show (dats m ρ 0 c).Φ t0_0.castSucc = Φ₀ m ρ c from rfl]
  rw [show (dats m ρ 0 c).Φ t0_0.succ = Φ₁ c from rfl]
  rw [show (dats m ρ 0 c).after 0 t0_0 = xstg m ρ c from rfl]
  rw [show (dats m ρ 0 c).after 1 t0_0 = FIN m ρ from rfl]
  have h := body_sound m ρ c (h0 := Memref.isWhole_whole _) (h1 := Memref.isWhole_whole _) (h2 := Memref.isWhole_whole _) (h3 := Memref.isWhole_whole _)
  unfold pre0 post0 run at h
  convert h using 2

/-! ### The cells at launch -/

/-- The kernel's own semaphores: those of the messages. The barrier's is the runtime's. -/
abbrev osem (k : Fin 24 ⊕ Fin 24) : SemLoc sig := csem (.inr k)

theorem ownSemFacts : Pipeline.OwnSemFacts cfg0.spec osem where
  isScoped := by decide
  inj := fun a b h => Sum.inr.inj (csem_injective h)
  disj := by decide

theorem share_eq (c : Dev nD) (w : Fin cfg0.W) : (dats m ρ 0 c).share w = fullShare := by unfold Dat.share; split <;> rfl

/-- Every cell, and every duty of every cell: a barrier has two. -/
def cells : Finset (GSem nD τ sig) := Finset.univ.map ⟨kcell, kcell_injective⟩

abbrev dutyOf (cj : Dev nD × (Bool ⊕ (Fin 24 ⊕ Fin 24))) : GSem nD τ sig × ℕ × Bool :=
  match cj.2 with
  | .inl d => (barCell cj.1, 0, d)
  | .inr k => (kcell (cj.1, .inr k), 0, false)

theorem dutyOf_injective : Function.Injective (dutyOf : Dev nD × (Bool ⊕ (Fin 24 ⊕ Fin 24)) → _) := by
  rintro ⟨c, j⟩ ⟨c', j'⟩ h
  rcases j with d | k <;> rcases j' with d' | k'
  · have h1 := kcell_injective (a₁ := (c, .inl ())) (a₂ := (c', .inl ())) (congrArg Prod.fst h)
    have h2 : d = d' := congrArg (fun x : GSem nD τ sig × ℕ × Bool => x.2.2) h
    have h3 : c = c' := congrArg Prod.fst h1
    rw [h3, h2]
  · have h1 := kcell_injective (a₁ := (c, .inl ())) (a₂ := (c', .inr k')) (congrArg Prod.fst h)
    cases congrArg Prod.snd h1
  · have h1 := kcell_injective (a₁ := (c, .inr k)) (a₂ := (c', .inl ())) (congrArg Prod.fst h)
    cases congrArg Prod.snd h1
  · have h1 := kcell_injective (a₁ := (c, .inr k)) (a₂ := (c', .inr k')) (congrArg Prod.fst h)
    cases h1; rfl

def dutyToks : Finset (GSem nD τ sig × ℕ × Bool) := Finset.univ.map ⟨dutyOf, dutyOf_injective⟩

def u₀ : UU := (initOf (Pipeline.cells cfgs cellOf_inj) (Pipeline.launchToks cfgs cellOf_inj), initOf cells dutyToks)

/-- The duties of device `c`'s own cells. -/
def own_toks (c : Dev nD) : sProp 𝕄 :=
  iprop((dutyTok ER (barCell c) 0 false ∗ dutyTok ER (barCell c) 0 true)
    ∗ bigSep Finset.univ (fun k => dutyTok ER (sendCell k c) 0 false) ∗ bigSep Finset.univ (fun k => dutyTok ER (recvCell k c) 0 false))
/-- Device `c`'s place at each of its cells. -/
def places (c : Dev nD) : sProp 𝕄 := bigSep Finset.univ fun k : KI => atPos ER (kcell (c, k)) 0 ∅ 0

def G (c : Dev nD) : sProp 𝕄 :=
  iprop((bigSep Finset.univ fun k : KI => roundState ER (ringRd m ρ) (kcell (c, k)) 0)
    ∗ (bigSep Finset.univ fun k : KI => reached ER (kcell (c, k)) 0) ∗ places c ∗ own_toks c)

theorem split_own (Φ : Fin 24 ⊕ Fin 24 → sProp 𝕄) :
    bigSep Finset.univ Φ = iprop(bigSep Finset.univ (fun k => Φ (.inl k)) ∗ bigSep Finset.univ (fun k => Φ (.inr k))) := bigSep_univ_sum Φ
theorem split_cells (Φ : KI → sProp 𝕄) : bigSep Finset.univ Φ = iprop(Φ (.inl ()) ∗ bigSep Finset.univ (fun k => Φ (.inr k))) := by
  rw [bigSep_univ_sum, bigSep_univ_eq_bigSepL [()] (by decide) (by decide), bigSepL_singleton]; rfl

theorem over_cells (Φ : GSem nD τ sig → sProp 𝕄) :
    bigSep cells Φ = bigSep Finset.univ fun c : Dev nD => bigSep Finset.univ fun k : KI => Φ (kcell (c, k)) := by
  unfold cells; rw [bigSep_map, bigSep_univ_prod]; rfl

theorem two_bools (Φ : Bool → sProp 𝕄) : bigSep Finset.univ Φ = iprop(Φ false ∗ Φ true) :=
  bigSep_univ_eq_bigSepL [false, true] (by decide) (by decide) Φ

theorem over_duties : bigSep dutyToks (fun x => (dutyTok ER x.1 x.2.1 x.2.2 : sProp 𝕄)) = bigSep Finset.univ fun c : Dev nD => own_toks c := by
  unfold dutyToks; rw [bigSep_map, bigSep_univ_prod]
  refine bigSep_congr fun c _ => ?_
  unfold own_toks
  rw [bigSep_univ_sum, bigSep_univ_sum, two_bools]
  rfl

theorem fund : BI.own (ER (initOf cells dutyToks)) ⊢ (|==> bigSep Finset.univ (G m ρ) : sProp 𝕄) := by
  iintro HX
  imod (Rounds.fund ER (ringRd m ρ) cells dutyToks) $$ HX with ⟨Hst, Hr, Hat, Htok⟩
  imodintro
  ihave Hst := (Entails.of_eq (over_cells fun g => roundState ER (ringRd m ρ) g 0)) $$ Hst
  ihave Hat := (Entails.of_eq (over_cells fun g => atPos ER g 0 ∅ 0)) $$ Hat
  ihave Hr := (Entails.of_eq (over_cells fun g => reached ER g 0)) $$ Hr
  ihave Htok := (Entails.of_eq over_duties) $$ Htok
  unfold G places; simp only [bigSep_sep']
  isplitl [Hst]; · iexact Hst
  isplitl [Hr]; · iexact Hr
  isplitl [Hat] <;> iassumption

theorem unscoped_eq (c : Dev nD) : (unscopedSems0 c : sProp 𝕄) = barDone c := by
  unfold unscopedSems0; rw [bigSep_eq_bigSepL_of_eq [SemLoc.reg barS] (by decide) (by decide)]; rfl
theorem scoped_eq (c : Dev nD) : (Pipeline.ownSems0 (Ix := Unit) (Name := ℕ) (U := UU) (Lvl := ℕ) (Val := Elt F) (τ := τ) osem c : sProp 𝕄) = dones c := by
  unfold Pipeline.ownSems0 dones; rw [bigSep_univ_sum]; rfl

/-- Every semaphore of a device is at zero. -/
theorem sems_zero (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [unscoped_eq, split_cells]; unfold barDone Pipeline.ownSems0
  iintro ⟨H, HB⟩
  isplitl [HB]; · iexact HB
  iexact H

theorem alloc_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KI => iprop(∃ κ : ℕ, cellInv ER (ringRd m ρ) κ (kcell (c, k))))
          ∗ (bigSep Finset.univ fun k : KI => reached ER (kcell (c, k)) 0) ∗ places c ∗ own_toks c) := by
  unfold G
  iintro ⟨Hos, Hus, Hst, Hrest⟩
  ihave Hv := (sems_zero (F := F) c) $$ [Hos Hus]
  · isplitl [Hos] <;> iassumption
  imod (show iprop((bigSep Finset.univ fun k : KI => semVal (kcell (c, k)) 0) ∗ bigSep Finset.univ fun k : KI => roundState ER (ringRd m ρ) (kcell (c, k)) 0)
      ⊢ (|={Set.univ}=> bigSep Finset.univ fun k : KI => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  iexact Hrest

/-! ### The tokens, dealt to those who pay with them -/

/-- What device `c` holds of the rounds, without its credits. -/
def held (c : Dev nD) : sProp 𝕄 :=
  iprop((dutyTok ER (barCell (x1 c)) 0 false ∗ dutyTok ER (barCell (x3 c)) 0 true) ∗ (bigSep Finset.univ (fun k => dutyTok ER (sendCell k c) 0 false)
      ∗ bigSep Finset.univ (fun k => dutyTok ER (recvCell k (tgt k c)) 0 false)) ∗ places c)

/-- Message by message, the receive cells' duties go to the senders. -/
theorem deal_recv : (bigSep Finset.univ fun c : Dev nD => bigSep Finset.univ fun k : Fin 24 => (dutyTok ER (recvCell k c) 0 false : sProp 𝕄))
    = bigSep Finset.univ fun c : Dev nD => bigSep Finset.univ fun k : Fin 24 => dutyTok ER (recvCell k (tgt k c)) 0 false := by
  rw [bigSep_univ_comm (fun (c : Dev nD) (k : Fin 24) => (dutyTok ER (recvCell k c) 0 false : sProp 𝕄)), bigSep_univ_comm (fun (c : Dev nD) (k : Fin 24) => (dutyTok ER (recvCell k (tgt k c)) 0 false : sProp 𝕄))]
  exact bigSep_congr fun k _ => bigSep_univ_equiv (tgtEquiv k) (fun c : Dev nD => (dutyTok ER (recvCell k c) 0 false : sProp 𝕄))

theorem deal : iprop((bigSep Finset.univ fun c : Dev nD => (places c : sProp 𝕄)) ∗ bigSep Finset.univ fun c : Dev nD => (own_toks c : sProp 𝕄))
    ⊢ bigSep Finset.univ fun c : Dev nD => held c := by
  unfold own_toks held
  simp only [bigSep_sep']
  rw [bigSep_univ_equiv x1Equiv (fun c : Dev nD => (dutyTok ER (barCell c) 0 false : sProp 𝕄)),
    bigSep_univ_equiv x3Equiv (fun c : Dev nD => (dutyTok ER (barCell c) 0 true : sProp 𝕄)), deal_recv]
  iintro ⟨Hp, ⟨H1, H2⟩, H3, H4⟩
  isplitl [H1 H2]
  · isplitl [H1]; · iexact H1
    iexact H2
  isplitl [H3 H4]
  · isplitl [H3]; · iexact H3
    iexact H4
  iexact Hp

def G' (c : Dev nD) : sProp 𝕄 := iprop((∃ K, records m ρ K) ∗ held c)

theorem with_records {K : Dev nD × KI → ℕ} :
    iprop(records m ρ K ∗ bigSep Finset.univ fun c : Dev nD => held c) ⊢ bigSep Finset.univ (G' m ρ) := by
  refine (sep_mono_left (BI.bigSep_of_persistent (Finset.univ : Finset (Dev nD)) (records m ρ K))).trans ?_
  rw [← bigSep_sep']
  refine bigSep_mono fun c _ => ?_
  show iprop(records m ρ K ∗ held c) ⊢ iprop((∃ K, records m ρ K) ∗ held c)
  iintro ⟨HR, Hh⟩
  isplitl [HR]
  · iexists K; iexact HR
  · iexact Hh

theorem share_records :
    (bigSep Finset.univ fun c : Dev nD => iprop((bigSep Finset.univ fun k : KI => iprop(∃ κ : ℕ, cellInv ER (ringRd m ρ) κ (kcell (c, k))))
          ∗ (bigSep Finset.univ fun k : KI => reached ER (kcell (c, k)) 0) ∗ places c ∗ own_toks c) : sProp 𝕄)
      ⊢ bigSep Finset.univ (G' m ρ) := by
  rw [bigSep_sep', bigSep_sep', bigSep_sep', ← bigSep_univ_prod (fun ck : Dev nD × KI => iprop(∃ κ : ℕ, cellInv ER (ringRd m ρ) κ (kcell ck))),
    ← bigSep_univ_prod (fun ck : Dev nD × KI => (reached ER (kcell ck) 0 : sProp 𝕄))]
  iintro ⟨HI, HR, Hat, Htok⟩
  ihave HK := (BI.bigSep_exists_pi Finset.univ (fun (ck : Dev nD × KI) (κ : ℕ) => (cellInv ER (ringRd m ρ) κ (kcell ck) : sProp 𝕄))) $$ HI
  icases HK with ⟨%K, HI⟩
  iapply (with_records m ρ (K := K))
  isplitl [HI HR]
  · unfold records; isplitl [HI]; · iexact HI
    iexact HR
  · iapply (deal (F := F))
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_cells m ρ c).trans (bigSep_fupd _ _)).trans (BI.fupd_mono (share_records m ρ))

/-! ### The credits -/

theorem recv_inj {k j : Fin 24} {a b : Dev nD} : recvCell k a = recvCell j b ↔ k = j ∧ a = b := by
  refine ⟨fun h => ?_, fun ⟨h1, h2⟩ => by rw [h1, h2]⟩
  have := kcell_injective (a₁ := (a, .inr (.inr k))) (a₂ := (b, .inr (.inr j))) h
  cases this; exact ⟨rfl, rfl⟩
theorem bar_inj {a b : Dev nD} : barCell a = barCell b ↔ a = b :=
  ⟨fun h => congrArg Prod.fst (kcell_injective (a₁ := (a, .inl ())) (a₂ := (b, .inl ())) h), fun h => h ▸ rfl⟩
theorem bar_ne_recv (k : Fin 24) (a b : Dev nD) : barCell a ≠ recvCell k b := fun h => by
  cases congrArg Prod.snd (kcell_injective (a₁ := (a, .inl ())) (a₂ := (b, .inr (.inr k))) h)

theorem owed_at (d : Dev nD) (g : GSem nD τ sig) : O₀ d g () = (∑ k : Fin 24, if g = recvCell k (tgt k d) then N else 0)
    + (if g = barCell (x3 d) then 1 else 0) + (if g = barCell (x1 d) then 1 else 0) := by
  unfold O₀ O₁ owe
  rw [Pi.add_apply, Finsupp.add_apply, Pi.add_apply, Finsupp.add_apply, tallyAt_apply, tallyAt_apply, unsent_zero, Finset.sum_apply, Finsupp.finset_sum_apply]
  simp only [tallyAt_apply, and_true]

theorem owed_bar (d c : Dev nD) : O₀ d (barCell c) () = (if d = x3 c then 1 else 0) + (if d = x1 c then 1 else 0) := by
  rw [owed_at, Finset.sum_eq_zero fun k _ => if_neg (bar_ne_recv k _ _), Nat.zero_add]
  simp only [bar_inj]
  revert d c; decide
theorem owed_recv (d c : Dev nD) (k : Fin 24) : O₀ d (recvCell k c) () = if d = tgt k c then N else 0 := by
  rw [owed_at, if_neg (bar_ne_recv k _ _).symm, if_neg (bar_ne_recv k _ _).symm]
  simp only [recv_inj]
  rw [Finset.sum_eq_single k (fun j _ hj => if_neg fun h => hj h.1.symm) (fun h => absurd (Finset.mem_univ _) h)]
  refine if_congr ⟨fun h => ?_, fun h => ⟨rfl, ?_⟩⟩ rfl rfl
  · rw [h.2, tgt_tgt]
  · rw [h, tgt_tgt]

theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (x3 c) fun _ => 1, Finset.sum_ite_eq' Finset.univ (x1 c) fun _ => 1, if_pos (Finset.mem_univ _), if_pos (Finset.mem_univ _)]
theorem credit_recv (c : Dev nD) (k : Fin 24) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (tgt k c) fun _ => N,
    if_pos (Finset.mem_univ _)]

theorem credits (c : Dev nD) :
    (Pipeline.launchCred O₀ c : sProp 𝕄)
      ⊢ iprop(cred (tallyAt (barCell c) () 2) ∗ bigSep Finset.univ fun k : Fin 24 => cred (tallyAt (recvCell k c) () N)) := by
  unfold Pipeline.launchCred
  refine BIBase.Entails.trans (bigSep_subset (Finset.subset_univ (Finset.univ.map ⟨csem, csem_injective⟩))) ?_
  rw [bigSep_map, split_cells, split_own, ← credit_bar]
  iintro ⟨H1, -, H2⟩
  isplitl [H1]; · iexact H1
  iapply (show (bigSep Finset.univ fun k : Fin 24 => cred (tallyOn (recvCell k c) (launchCredit (Pipeline.owing O₀) 0 (recvCell k c))) : sProp 𝕄)
      ⊢ bigSep Finset.univ fun k : Fin 24 => cred (tallyAt (recvCell k c) () N) from
    Entails.of_eq (bigSep_congr fun k _ => congrArg cred (credit_recv c k)))
  iexact H2

/-! ### The sides of the launch -/

theorem tokens (c : Dev nD) :
    iprop(held c ∗ cred (tallyAt (barCell c) () 2) ∗ bigSep Finset.univ fun k : Fin 24 => cred (tallyAt (recvCell k c) () N))
      ⊢ iprop(barTok (F := F) c ∗ toks c) := by
  unfold held places barTok toks sTok rTok
  rw [split_cells, split_own]
  simp only [bigSep_sep']
  iintro ⟨⟨⟨H1, H2⟩, ⟨H3, H4⟩, Hb, Hs, Hr⟩, Hc, Hcr⟩
  isplitl [H1 H2 Hb Hc]
  · isplitl [H1]; · iexact H1
    isplitl [H2]; · iexact H2
    isplitl [Hb]; · iexact Hb
    iexact Hc
  isplitl [H3 H4 Hs]
  · isplitl [H3]; · iexact H3
    isplitl [H4]; · iexact H4
    iexact Hs
  isplitl [Hr]; · iexact Hr
  iexact Hcr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' start
  iintro ⟨-, Hlev, Hcr, -, ⟨%K, HR⟩, Hh⟩
  ihave Hc := (credits (F := F) c) $$ Hcr
  ihave Ht := (tokens (F := F) c) $$ [Hh Hc]
  · isplitl [Hh] <;> iassumption
  imodintro
  isplitl
  · isplitl [HR Hlev]
    · iexists K; unfold Ctx; isplitl [HR] <;> iassumption
    iexact Ht
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, scoped_eq, unscoped_eq]
  unfold Φ₁
  iintro H; iexact H

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair run on four devices, from any memory with zero counters, terminates with the argument arrays as they
    were, the result arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array of a device is left as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Ar

end
-- ==== Proof.I.Value.lean ====
/-
  What the result array holds at the end, and that over the reals it is the reference's sum over the four devices.
-/
module

public import proofs.«01_k».proof.Proof.I.Launch
public import proofs.«01_k».proof.Proof.Gen.ReferenceIdeal.Read
public import Idealize.ShloMosaic.Lib.Layout

@[expose] public section

noncomputable section

namespace Cert.KernelIdeal.Ar

open Cert.KernelIdeal.Gen
open Idealize.ShloMosaic Idealize.ShloMosaic.ValueIdx
open Idealize.ShloMosaic.TcCoe
open Idealize.SL Idealize.SL.Sem

section Result

variable {F : FTy → Type} [FloatOps F]
variable (m : (ℓ : Loc nD τ sig) → Buf (Elt F) ℓ) (ρ : Dev nD → PrngReg)

/-- The argument's window lets every element through where it stands. -/
theorem emb_x (i : S1x1024x1024.Idx) : (win0_0.blk (0 : Fin 1)).view.emb i = i := by
  funext a
  refine Fin.ext ?_
  show 0 * _ + 1 * (i a).val = (i a).val
  omega

/-- So does the result's. -/
theorem emb_w (i : S1024x1024.Idx) : (win0_1.blk (0 : Fin 1)).view.emb i = i := by
  funext a
  refine Fin.ext ?_
  show 0 * _ + 1 * (i a).val = (i a).val
  omega

theorem xstg_eq (c : Dev nD) : xstg m ρ c = m ((c : Thread nD τ).loc main_arg0) := by
  funext i
  show (s₀ m ρ).mem ((c : Thread nD τ).loc main_arg0) ((win0_0.blk (0 : Fin 1)).view.emb i) = _
  rw [emb_x]; rfl

theorem flushed_w (c : Dev nD) (t : Fin cfg0.N) :
    (dats m ρ 0 c).flushed (1 : Fin 2) t = ((cfg0.win 1).blk t).view.read (Elt F) (FIN m ρ) := by
  obtain rfl : t = (0 : Fin 1) := Subsingleton.elim (α := Fin 1) _ _
  funext i
  show FIN m ρ i = FIN m ρ ((win0_1.blk (0 : Fin 1)).view.emb i)
  rw [emb_w]

/-- The result array of every device ends at the finished values. -/
theorem finalA_w (c : Dev nD) : finalA m ρ c (1 : Fin 2) = FIN m ρ :=
  (dats m ρ 0 c).arrAt_eq_of_cover (1 : Fin 2) (FIN m ρ) (fun t _ => flushed_w m ρ c t) fun i =>
    ⟨(0 : Fin 1), flush0_1 _, by
      have h := ((cfg0.win 1).blk (0 : Fin 1)).view.emb_mem_set i
      rwa [show ((cfg0.win 1).blk (0 : Fin 1)).view.emb i = i from emb_w i] at h⟩

end Result

section Reals

/-- The first and the second exchange together bring every device's part to the one that finishes a block: the four
    devices they name are all four. -/
theorem four {A : Type} [AddCommMonoid A] (f : Dev nD → A) (n : Fin 16) :
    (f (own n) + f (p1 n (own n))) + (f (p2 n (own n)) + f (p1 n (p2 n (own n)))) = ∑ k : Fin 4, f k := by
  have h : ∀ n : Fin 16, (Finset.univ : Finset (Dev nD)) = {own n, p1 n (own n), p2 n (own n), p1 n (p2 n (own n))}
      ∧ own n ∉ ({p1 n (own n), p2 n (own n), p1 n (p2 n (own n))} : Finset (Dev nD))
      ∧ p1 n (own n) ∉ ({p2 n (own n), p1 n (p2 n (own n))} : Finset (Dev nD))
      ∧ p2 n (own n) ≠ p1 n (p2 n (own n)) := by decide +kernel
  obtain ⟨h0, h1, h2, h3⟩ := h n
  show _ = ∑ k ∈ (Finset.univ : Finset (Dev nD)), f k
  rw [h0, Finset.sum_insert h1, Finset.sum_insert h2, Finset.sum_pair h3, add_assoc]

variable (m : (ℓ : Loc nD τ sig) → Buf (Elt Ideal) ℓ) (ρ : Dev nD → PrngReg)
  (X : (⟨⟨3, ![4, 1024, 1024]⟩, .bf16⟩ : BufTy).Contents (Elt Ideal))

/-- Device `c`'s element is the whole array's at first coordinate `c`. -/
theorem xv_whole (hX : ∀ c : Dev nD, m ((c : Thread nD τ).loc main_arg0)
      = Layout.block ⟨3, ![1, 1024, 1024]⟩ ⟨3, ![4, 1024, 1024]⟩ 0 4 c X) (c : Dev nD) (i : S1024x1024.Idx) :
    xv m ρ c (i 0).val (i 1) = X (Cert.ReferenceIdeal.Read.idx_main_v1 i c) := by
  unfold xv xAt
  rw [xstg_eq, hX c, Layout.block_apply]
  refine congrArg X (funext fun a => Fin.ext ?_)
  rw [Layout.Tiles.idx_val]
  have h0 : (i 0).val % 1024 = (i 0).val := Nat.mod_eq_of_lt (i 0).isLt
  match a with
  | ⟨0, _⟩ => show c.val * 1 + 0 = c.val; omega
  | ⟨1, _⟩ => exact h0
  | ⟨2, _⟩ => rfl

/-- Over the reals the finished values are the reference's. -/
theorem FIN_sum (hX : ∀ c : Dev nD, m ((c : Thread nD τ).loc main_arg0)
      = Layout.block ⟨3, ![1, 1024, 1024]⟩ ⟨3, ![4, 1024, 1024]⟩ 0 4 c X) :
    FIN m ρ = Cert.ReferenceIdeal.Read.val_main_v2 X := by
  funext i
  rw [Cert.ReferenceIdeal.Read.val_main_v2_apply]
  show _ = Cert.ReferenceIdeal.Read.val_main_v1 (F := Ideal) X i
  rw [Cert.ReferenceIdeal.Read.val_main_v1_apply, Cert.ReferenceIdeal.Read.val_main_cst_apply]
  show _ = Ideal.ofBits .f32 0x00000000#32 + _
  rw [Ideal.ofBits_zero_f32, zero_add]
  refine Eq.trans ?_ (four (fun c => X (Cert.ReferenceIdeal.Read.idx_main_v1 i c)) (blk (i 0).val))
  simp only [← xv_whole m ρ X hX]
  rfl

end Reals

end Cert.KernelIdeal.Ar

end
-- ==== Proof.lean ====
/-
  The proof of the five claims: the kernel, its reading over the reals and the reference each run to the end with their
  argument as it was and every counter at zero; and over the reals every device's result is the reference's sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.K.Launch
public import proofs.«01_k».proof.Proof.I.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel ends, with its argument as it was and every counter at zero. -/
theorem frame_kernel : Cert.quiescent_Kernel (hKernel := Cert.Kernel.Gen.facts) := fun m g _ =>
  (θ_run Cert.Kernel.defs _ _).mono
    (fun _ h => ⟨fun c => (h.1 c (0 : Fin 2)).trans (Cert.Kernel.Ar.finalA_x m g c), h.2⟩)
    (Cert.Kernel.Ar.run_main (F := Bits) m g)

theorem frame_ideal : Cert.quiescent_KernelIdeal (hKernelIdeal := Cert.KernelIdeal.Gen.facts) := fun m g _ =>
  (θ_run Cert.KernelIdeal.defs _ _).mono
    (fun _ h => ⟨fun c => (h.1 c (0 : Fin 2)).trans (Cert.KernelIdeal.Ar.finalA_x m g c), h.2⟩)
    (Cert.KernelIdeal.Ar.run_main (F := Ideal) m g)

theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over the reals every device ends with the reference's sum. -/
theorem sum_agrees : Cert.algebraic_KernelIdeal_ReferenceIdeal (hKernelIdeal := Cert.KernelIdeal.Gen.facts)
    (hReferenceIdeal := Cert.ReferenceIdeal.Gen.facts) := fun m g m' g' _ hX =>
  ⟨Cert.ReferenceIdeal.Read.val_main_v2 (m' (((0 : Dev Cert.ReferenceIdeal.nD).tc :
      Thread Cert.ReferenceIdeal.nD Cert.ReferenceIdeal.τ).loc Cert.ReferenceIdeal.main_arg0)),
    (θ_run Cert.KernelIdeal.defs _ _).mono
      (fun _ h c => ⟨((h.1 c (1 : Fin 2)).trans (Cert.KernelIdeal.Ar.finalA_w m g c)).trans
          (Cert.KernelIdeal.Ar.FIN_sum m g _ hX),
        (h.1 c (0 : Fin 2)).trans (Cert.KernelIdeal.Ar.finalA_x m g c)⟩)
      (Cert.KernelIdeal.Ar.run_main (F := Ideal) m g),
    (θ_run Cert.ReferenceIdeal.defs _ _).mono
      (fun _ h => ⟨((h 0).1).trans (Cert.ReferenceIdeal.Read.val_main_v2_eq _), (h 0).2⟩)
      (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, sum_agrees⟩

end Cert.Proof

end
